-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_valid [hPre_valid : Cert.Pre_valid.Facts] (m : (ℓ : Loc Cert.KernelIdeal.nD Cert.KernelIdeal.τ Cert.KernelIdeal.sig) → Buf (Elt Ideal) ℓ) : Prop :=
  ∀ c : Dev Cert.KernelIdeal.nD,
    (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.1 = (fun _ => 1#1)
    ∧ (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_valid [hPre_valid : Cert.Pre_valid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.1 = (fun _ => 1#1)
    ∧ (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_valid [hKernelIdeal : Cert.KernelIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_valid m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_valid [hReferenceIdeal : Cert.ReferenceIdeal.Facts] [hPre_valid : Cert.Pre_valid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_valid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_valid [hKernelIdeal : Cert.KernelIdeal.Facts] [hReferenceIdeal : Cert.ReferenceIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_valid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v231) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_valid : Cert.Pre_valid.Facts),
    quiescent_Kernel (hKernel := hKernel)
    ∧ quiescent_KernelIdeal (hKernelIdeal := hKernelIdeal)
    ∧ quiescent_KernelIdeal_pre_valid (hKernelIdeal := hKernelIdeal) (hPre_valid := hPre_valid)
    ∧ quiescent_ReferenceIdeal (hReferenceIdeal := hReferenceIdeal)
    ∧ quiescent_ReferenceIdeal_pre_valid (hReferenceIdeal := hReferenceIdeal) (hPre_valid := hPre_valid)
    ∧ preserves_Kernel_KernelIdeal
    ∧ algebraic_KernelIdeal_ReferenceIdeal_pre_valid (hKernelIdeal := hKernelIdeal) (hReferenceIdeal := hReferenceIdeal) (hPre_valid := hPre_valid)
-- ==== Pre_valid.lean ====
abbrev S32x24564x4 : Shape := ⟨3, ![32, 24564, 4]⟩
abbrev S32x24564x2 : Shape := ⟨3, ![32, 24564, 2]⟩
abbrev S32x16x4 : Shape := ⟨3, ![32, 16, 4]⟩
abbrev S24564x4 : Shape := ⟨2, ![24564, 4]⟩
abbrev S_ : Shape := ⟨0, ![]⟩
abbrev S32x16x2 : Shape := ⟨3, ![32, 16, 2]⟩
abbrev S24564x2 : Shape := ⟨2, ![24564, 2]⟩

class Facts : Prop where
  bcast_S_S32x24564x2 : S_.BroadcastsInDim S32x24564x2 (![] : Fin 0 → Fin S32x24564x2.rank)
  bcast_S_S32x16x4 : S_.BroadcastsInDim S32x16x4 (![] : Fin 0 → Fin S32x16x4.rank)
  bcast_S_S24564x4 : S_.BroadcastsInDim S24564x4 (![] : Fin 0 → Fin S24564x4.rank)
  slices_S32x16x4_S32x16x2_0_0_0 : S32x16x4.Slices ![0, 0, 0] S32x16x2
  slices_S32x16x4_S32x16x2_0_0_2 : S32x16x4.Slices ![0, 0, 2] S32x16x2
  slices_S24564x4_S24564x2_0_2 : S24564x4.Slices ![0, 2] S24564x2
  bcast_S_S24564x2 : S_.BroadcastsInDim S24564x2 (![] : Fin 0 → Fin S24564x2.rank)

variable [Facts]

def fn {F : FTy → Type} [FloatOps F] (main_arg0 : FVec F S32x24564x4 .f32) (main_arg1 : FVec F S32x24564x2 .f32) (main_arg2 : FVec F S32x16x4 .f32) (main_arg3 : FVec F S24564x4 .f32) : IVec S32x24564x2 1 × IVec S32x16x4 1 × IVec S24564x4 1 × IVec S32x16x2 1 × IVec S24564x2 1 :=
  let main_v0 : FVec F S32x24564x2 .f32 := Host.absf main_arg1
  let main_cst : FVec F S_ .f32 := constant S_ .f32 0x7F800000#32
  let main_v1 : FVec F S32x24564x2 .f32 := broadcastInDim S32x24564x2 ![] bcast_S_S32x24564x2 main_cst
  let main_v2 : IVec S32x24564x2 1 := cmpf .olt main_v0 main_v1
  let main_v3 : FVec F S32x16x4 .f32 := Host.absf main_arg2
  let main_cst_0 : FVec F S_ .f32 := constant S_ .f32 0x7F800000#32
  let main_v4 : FVec F S32x16x4 .f32 := broadcastInDim S32x16x4 ![] bcast_S_S32x16x4 main_cst_0
  let main_v5 : IVec S32x16x4 1 := cmpf .olt main_v3 main_v4
  let main_v6 : FVec F S24564x4 .f32 := Host.absf main_arg3
  let main_cst_1 : FVec F S_ .f32 := constant S_ .f32 0x7F800000#32
  let main_v7 : FVec F S24564x4 .f32 := broadcastInDim S24564x4 ![] bcast_S_S24564x4 main_cst_1
  let main_v8 : IVec S24564x4 1 := cmpf .olt main_v6 main_v7
  let main_v9 : FVec F S32x16x2 .f32 := (extractStridedSlice S32x16x2 ![0, 0, 0] · slices_S32x16x4_S32x16x2_0_0_0) main_arg2
  let main_v10 : FVec F S32x16x2 .f32 := (extractStridedSlice S32x16x2 ![0, 0, 2] · slices_S32x16x4_S32x16x2_0_0_2) main_arg2
  let main_v11 : IVec S32x16x2 1 := cmpf .olt main_v9 main_v10
  let main_v12 : FVec F S24564x2 .f32 := (extractStridedSlice S24564x2 ![0, 2] · slices_S24564x4_S24564x2_0_2) main_arg3
  let main_cst_2 : FVec F S_ .f32 := constant S_ .f32 0x00000000#32
  let main_v13 : FVec F S24564x2 .f32 := broadcastInDim S24564x2 ![] bcast_S_S24564x2 main_cst_2
  let main_v14 : IVec S24564x2 1 := cmpf .ogt main_v12 main_v13
  (main_v2, main_v5, main_v8, main_v11, main_v14)
-- ==== Kernel.lean ====
abbrev S32x24564x4 : Shape := ⟨3, ![32, 24564, 4]⟩
abbrev S32x24564x2 : Shape := ⟨3, ![32, 24564, 2]⟩
abbrev S32x16x4 : Shape := ⟨3, ![32, 16, 4]⟩
abbrev S24564x4 : Shape := ⟨2, ![24564, 4]⟩
abbrev S_ : Shape := ⟨0, ![]⟩
abbrev S32x24576x4 : Shape := ⟨3, ![32, 24576, 4]⟩
abbrev S32x4x24576 : Shape := ⟨3, ![32, 4, 24576]⟩
abbrev S32x4x192x128 : Shape := ⟨4, ![32, 4, 192, 128]⟩
abbrev S32x24576x2 : Shape := ⟨3, ![32, 24576, 2]⟩
abbrev S32x2x24576 : Shape := ⟨3, ![32, 2, 24576]⟩
abbrev S32x2x192x128 : Shape := ⟨4, ![32, 2, 192, 128]⟩
abbrev S24576x4 : Shape := ⟨2, ![24576, 4]⟩
abbrev S4x24576 : Shape := ⟨2, ![4, 24576]⟩
abbrev S1x4x192x128 : Shape := ⟨4, ![1, 4, 192, 128]⟩
abbrev S32x1x128 : Shape := ⟨3, ![32, 1, 128]⟩
abbrev S4x4x192x128 : Shape := ⟨4, ![4, 4, 192, 128]⟩
abbrev S4x2x192x128 : Shape := ⟨4, ![4, 2, 192, 128]⟩
abbrev S4x16x4 : Shape := ⟨3, ![4, 16, 4]⟩
abbrev S4x1x128 : Shape := ⟨3, ![4, 1, 128]⟩
abbrev S192x128 : Shape := ⟨2, ![192, 128]⟩
abbrev S4x192x128 : Shape := ⟨3, ![4, 192, 128]⟩
abbrev S1x192x128 : Shape := ⟨3, ![1, 192, 128]⟩
abbrev S1x16x4 : Shape := ⟨3, ![1, 16, 4]⟩
abbrev S16x4 : Shape := ⟨2, ![16, 4]⟩
abbrev S16x1 : Shape := ⟨2, ![16, 1]⟩
abbrev S16x1x1 : Shape := ⟨3, ![16, 1, 1]⟩
abbrev S16x192x128 : Shape := ⟨3, ![16, 192, 128]⟩
abbrev S16 : Shape := ⟨1, ![16]⟩
abbrev S1x1x1 : Shape := ⟨3, ![1, 1, 1]⟩
abbrev S1x1 : Shape := ⟨2, ![1, 1]⟩
abbrev S1 : Shape := ⟨1, ![1]⟩
abbrev S1x2x192x128 : Shape := ⟨4, ![1, 2, 192, 128]⟩
abbrev S2x192x128 : Shape := ⟨3, ![2, 192, 128]⟩
abbrev S1x128 : Shape := ⟨2, ![1, 128]⟩
abbrev S1x1x128 : Shape := ⟨3, ![1, 1, 128]⟩
abbrev S32x1x1 : Shape := ⟨3, ![32, 1, 1]⟩
abbrev S32 : Shape := ⟨1, ![32]⟩

abbrev nBuf : Space → Nat
  | .hbm => 44
  | .vmem => 9
  | .smem => 0
  | _ => 0

abbrev bufTy : (tb : Table) → Fin (tcTables nBuf tb) → BufTy
  | .hbm, ⟨0, _⟩ => ⟨S32x24564x4, .f32⟩
  | .hbm, ⟨1, _⟩ => ⟨S32x24564x2, .f32⟩
  | .hbm, ⟨2, _⟩ => ⟨S32x16x4, .f32⟩
  | .hbm, ⟨3, _⟩ => ⟨S24564x4, .f32⟩
  | .hbm, ⟨4, _⟩ => ⟨S_, .i32⟩
  | .hbm, ⟨5, _⟩ => ⟨S_, .f32⟩
  | .hbm, ⟨6, _⟩ => ⟨S32x24576x4, .f32⟩
  | .hbm, ⟨7, _⟩ => ⟨S32x4x24576, .f32⟩
  | .hbm, ⟨8, _⟩ => ⟨S32x4x192x128, .f32⟩
  | .hbm, ⟨9, _⟩ => ⟨S_, .i32⟩
  | .hbm, ⟨10, _⟩ => ⟨S_, .f32⟩
  | .hbm, ⟨11, _⟩ => ⟨S32x24576x2, .f32⟩
  | .hbm, ⟨12, _⟩ => ⟨S32x2x24576, .f32⟩
  | .hbm, ⟨13, _⟩ => ⟨S32x2x192x128, .f32⟩
  | .hbm, ⟨14, _⟩ => ⟨S_, .i32⟩
  | .hbm, ⟨15, _⟩ => ⟨S_, .f32⟩
  | .hbm, ⟨16, _⟩ => ⟨S24576x4, .f32⟩
  | .hbm, ⟨17, _⟩ => ⟨S4x24576, .f32⟩
  | .hbm, ⟨18, _⟩ => ⟨S1x4x192x128, .f32⟩
  | .hbm, ⟨19, _⟩ => ⟨S32x1x128, .f32⟩
  | .hbm, ⟨20, _⟩ => ⟨S32x1x1, .f32⟩
  | .hbm, ⟨21, _⟩ => ⟨S32, .f32⟩
  | .hbm, ⟨22, _⟩ => ⟨S_, .f32⟩
  | .hbm, ⟨23, _⟩ => ⟨S_, .f32⟩
  | .hbm, ⟨24, _⟩ => ⟨S32x1x1, .f32⟩
  | .hbm, ⟨25, _⟩ => ⟨S32, .f32⟩
  | .hbm, ⟨26, _⟩ => ⟨S_, .f32⟩
  | .hbm, ⟨27, _⟩ => ⟨S_, .f32⟩
  | .hbm, ⟨28, _⟩ => ⟨S32x1x1, .f32⟩
  | .hbm, ⟨29, _⟩ => ⟨S32, .f32⟩
  | .hbm, ⟨30, _⟩ => ⟨S_, .f32⟩
  | .hbm, ⟨31, _⟩ => ⟨S_, .f32⟩
  | .hbm, ⟨32, _⟩ => ⟨S32x1x1, .f32⟩
  | .hbm, ⟨33, _⟩ => ⟨S32, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .local _ .vmem, ⟨0, _⟩ => ⟨S4x4x192x128, .f32⟩
  | .local _ .vmem, ⟨1, _⟩ => ⟨S4x4x192x128, .f32⟩
  | .local _ .vmem, ⟨2, _⟩ => ⟨S4x2x192x128, .f32⟩
  | .local _ .vmem, ⟨3, _⟩ => ⟨S4x2x192x128, .f32⟩
  | .local _ .vmem, ⟨4, _⟩ => ⟨S4x16x4, .f32⟩
  | .local _ .vmem, ⟨5, _⟩ => ⟨S4x16x4, .f32⟩
  | .local _ .vmem, ⟨6, _⟩ => ⟨S1x4x192x128, .f32⟩
  | .local _ .vmem, ⟨7, _⟩ => ⟨S4x1x128, .f32⟩
  | .local _ .vmem, ⟨8, _⟩ => ⟨S4x1x128, .f32⟩
  | _, _ => ⟨S32x24564x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_call2_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c12_i32 : BitVec 32 := 12#32
  let v680 : BitVec 32 := Scalar.addi c0_i32 c12_i32
  let c1_i32 : BitVec 32 := 1#32
  ⟨c0_i32, v680, c1_i32⟩
@[reducible] def k0_t2_loop : Scf.Loop 32 :=
  let c0_i32_147 : BitVec 32 := 0#32
  let c12_i32_148 : BitVec 32 := 12#32
  let v1417 : BitVec 32 := Scalar.addi c0_i32_147 c12_i32_148
  let c1_i32_149 : BitVec 32 := 1#32
  ⟨c0_i32_147, v1417, c1_i32_149⟩
@[reducible] def k0_t3_loop : Scf.Loop 32 :=
  let c0_i32_235 : BitVec 32 := 0#32
  let c12_i32_236 : BitVec 32 := 12#32
  let v2154 : BitVec 32 := Scalar.addi c0_i32_235 c12_i32_236
  let c1_i32_237 : BitVec 32 := 1#32
  ⟨c0_i32_235, v2154, c1_i32_237⟩
@[reducible] def k0_t4_loop : Scf.Loop 32 :=
  let c0_i32_323 : BitVec 32 := 0#32
  let c12_i32_324 : BitVec 32 := 12#32
  let v2891 : BitVec 32 := Scalar.addi c0_i32_323 c12_i32_324
  let c1_i32_325 : BitVec 32 := 1#32
  ⟨c0_i32_323, v2891, c1_i32_325⟩
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x4x192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x2x192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x16x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4x192x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S32x24564x4 : Shape := ⟨3, ![32, 24564, 4]⟩
abbrev S32x24564x2 : Shape := ⟨3, ![32, 24564, 2]⟩
abbrev S32x16x4 : Shape := ⟨3, ![32, 16, 4]⟩
abbrev S24564x4 : Shape := ⟨2, ![24564, 4]⟩
abbrev S24564x1 : Shape := ⟨2, ![24564, 1]⟩
abbrev S24564 : Shape := ⟨1, ![24564]⟩
abbrev S1x1x24564 : Shape := ⟨3, ![1, 1, 24564]⟩
abbrev S_ : Shape := ⟨0, ![]⟩
abbrev S32x16x1 : Shape := ⟨3, ![32, 16, 1]⟩
abbrev S32x16 : Shape := ⟨2, ![32, 16]⟩
abbrev S32x16x24564 : Shape := ⟨3, ![32, 16, 24564]⟩
abbrev S32x24564 : Shape := ⟨2, ![32, 24564]⟩
abbrev S32x1x24564 : Shape := ⟨3, ![32, 1, 24564]⟩
abbrev S1x24564 : Shape := ⟨2, ![1, 24564]⟩
abbrev S32x24564x1 : Shape := ⟨3, ![32, 24564, 1]⟩
abbrev S32 : Shape := ⟨1, ![32]⟩
abbrev S32x1 : Shape := ⟨2, ![32, 1]⟩

abbrev nBuf : Space → Nat
  | .hbm => 324
  | .vmem => 0
  | .smem => 0
  | _ => 0

abbrev hbmTy0_0 (i : Nat) : BufTy := match i % 128 with
  | 0 => ⟨S32x24564x4, .f32⟩
  | 1 => ⟨S32x24564x2, .f32⟩
  | 2 => ⟨S32x16x4, .f32⟩
  | 3 => ⟨S24564x4, .f32⟩
  | 4 => ⟨S24564x1, .f32⟩
  | 5 => ⟨S24564, .f32⟩
  | 6 => ⟨S1x1x24564, .f32⟩
  | 7 => ⟨S24564x1, .f32⟩
  | 8 => ⟨S24564, .f32⟩
  | 9 => ⟨S1x1x24564, .f32⟩
  | 10 => ⟨S24564x1, .f32⟩
  | 11 => ⟨S24564, .f32⟩
  | 12 => ⟨S1x1x24564, .f32⟩
  | 13 => ⟨S24564x1, .f32⟩
  | 14 => ⟨S24564, .f32⟩
  | 15 => ⟨S1x1x24564, .f32⟩
  | 16 => ⟨S_, .f32⟩
  | 17 => ⟨S1x1x24564, .f32⟩
  | 18 => ⟨S1x1x24564, .f32⟩
  | 19 => ⟨S1x1x24564, .f32⟩
  | 20 => ⟨S_, .f32⟩
  | 21 => ⟨S1x1x24564, .f32⟩
  | 22 => ⟨S1x1x24564, .f32⟩
  | 23 => ⟨S1x1x24564, .f32⟩
  | 24 => ⟨S_, .f32⟩
  | 25 => ⟨S1x1x24564, .f32⟩
  | 26 => ⟨S1x1x24564, .f32⟩
  | 27 => ⟨S1x1x24564, .f32⟩
  | 28 => ⟨S_, .f32⟩
  | 29 => ⟨S1x1x24564, .f32⟩
  | 30 => ⟨S1x1x24564, .f32⟩
  | 31 => ⟨S1x1x24564, .f32⟩
  | 32 => ⟨S32x16x1, .f32⟩
  | 33 => ⟨S32x16, .f32⟩
  | 34 => ⟨S32x16x1, .f32⟩
  | 35 => ⟨S32x16x1, .f32⟩
  | 36 => ⟨S32x16, .f32⟩
  | 37 => ⟨S32x16x1, .f32⟩
  | 38 => ⟨S32x16x1, .f32⟩
  | 39 => ⟨S32x16, .f32⟩
  | 40 => ⟨S32x16x1, .f32⟩
  | 41 => ⟨S32x16x1, .f32⟩
  | 42 => ⟨S32x16, .f32⟩
  | 43 => ⟨S32x16x1, .f32⟩
  | 44 => ⟨S32x16x24564, .f32⟩
  | 45 => ⟨S32x16x24564, .f32⟩
  | 46 => ⟨S32x16x24564, .f32⟩
  | 47 => ⟨S32x16x24564, .f32⟩
  | 48 => ⟨S32x16x24564, .f32⟩
  | 49 => ⟨S32x16x24564, .f32⟩
  | 50 => ⟨S32x16x24564, .f32⟩
  | 51 => ⟨S_, .f32⟩
  | 52 => ⟨S32x16x24564, .f32⟩
  | 53 => ⟨S32x16x24564, .f32⟩
  | 54 => ⟨S32x16x24564, .f32⟩
  | 55 => ⟨S32x16x24564, .f32⟩
  | 56 => ⟨S32x16x24564, .f32⟩
  | 57 => ⟨S32x16x24564, .f32⟩
  | 58 => ⟨S32x16x24564, .f32⟩
  | 59 => ⟨S32x16x24564, .f32⟩
  | 60 => ⟨S32x16x24564, .f32⟩
  | 61 => ⟨S_, .f32⟩
  | 62 => ⟨S32x16x24564, .f32⟩
  | 63 => ⟨S32x16x24564, .f32⟩
  | 64 => ⟨S32x16x24564, .f32⟩
  | 65 => ⟨S32x16x1, .f32⟩
  | 66 => ⟨S32x16x1, .f32⟩
  | 67 => ⟨S32x16x1, .f32⟩
  | 68 => ⟨S1x1x24564, .f32⟩
  | 69 => ⟨S1x1x24564, .f32⟩
  | 70 => ⟨S1x1x24564, .f32⟩
  | 71 => ⟨S32x16x24564, .f32⟩
  | 72 => ⟨S32x16x24564, .f32⟩
  | 73 => ⟨S32x16x24564, .f32⟩
  | 74 => ⟨S32x16x24564, .f32⟩
  | 75 => ⟨S32x16x24564, .f32⟩
  | 76 => ⟨S_, .f32⟩
  | 77 => ⟨S32x24564, .f32⟩
  | 78 => ⟨S_, .f32⟩
  | 79 => ⟨S32x24564, .f32⟩
  | 80 => ⟨S32x1x24564, .f32⟩
  | 81 => ⟨S32x16x24564, .f32⟩
  | 82 => ⟨S32x16x24564, .i1⟩
  | 83 => ⟨S32x16x24564, .i32⟩
  | 84 => ⟨S_, .i32⟩
  | 85 => ⟨S_, .i32⟩
  | 86 => ⟨S32x16x24564, .i32⟩
  | 87 => ⟨S32x16x24564, .i32⟩
  | 88 => ⟨S_, .i32⟩
  | 89 => ⟨S32x24564, .i32⟩
  | 90 => ⟨S_, .f32⟩
  | 91 => ⟨S32x16, .f32⟩
  | 92 => ⟨S32x16x1, .f32⟩
  | 93 => ⟨S32x16x24564, .f32⟩
  | 94 => ⟨S32x16x24564, .i1⟩
  | 95 => ⟨S32x16x24564, .i32⟩
  | 96 => ⟨S_, .i32⟩
  | 97 => ⟨S_, .i32⟩
  | 98 => ⟨S32x16x24564, .i32⟩
  | 99 => ⟨S32x16x24564, .i32⟩
  | 100 => ⟨S_, .i32⟩
  | 101 => ⟨S32x16, .i32⟩
  | 102 => ⟨S32x16x24564, .i32⟩
  | 103 => ⟨S32x16x1, .i32⟩
  | 104 => ⟨S32x16x24564, .i32⟩
  | 105 => ⟨S32x16x24564, .i32⟩
  | 106 => ⟨S32x16x24564, .i1⟩
  | 107 => ⟨S_, .i32⟩
  | 108 => ⟨S_, .i32⟩
  | 109 => ⟨S32x16x24564, .i32⟩
  | 110 => ⟨S32x16x24564, .i32⟩
  | 111 => ⟨S_, .i32⟩
  | 112 => ⟨S32x24564, .i32⟩
  | 113 => ⟨S_, .i32⟩
  | 114 => ⟨S32x24564, .i32⟩
  | 115 => ⟨S32x24564, .i1⟩
  | 116 => ⟨S32x24564, .i32⟩
  | 117 => ⟨S_, .f32⟩
  | 118 => ⟨S_, .f32⟩
  | 119 => ⟨S32x24564, .f32⟩
  | 120 => ⟨S32x24564, .f32⟩
  | 121 => ⟨S_, .f32⟩
  | 122 => ⟨S32x24564, .f32⟩
  | 123 => ⟨S32x24564, .i1⟩
  | 124 => ⟨S32x24564, .i1⟩
  | 125 => ⟨S32x24564, .f32⟩
  | 126 => ⟨S_, .f32⟩
  | 127 => ⟨S_, .f32⟩
  | _ => ⟨S32x24564x4, .f32⟩

abbrev hbmTy0_1 (i : Nat) : BufTy := match i % 128 with
  | 0 => ⟨S32x1x24564, .i32⟩
  | 1 => ⟨S32x16x24564, .i32⟩
  | 2 => ⟨S32x16x24564, .i1⟩
  | 3 => ⟨S32x16x1, .f32⟩
  | 4 => ⟨S32x16, .f32⟩
  | 5 => ⟨S32x16x1, .f32⟩
  | 6 => ⟨S_, .f32⟩
  | 7 => ⟨S_, .f32⟩
  | 8 => ⟨S32x16x24564, .f32⟩
  | 9 => ⟨S32x16x24564, .f32⟩
  | 10 => ⟨S32x16x24564, .f32⟩
  | 11 => ⟨S_, .f32⟩
  | 12 => ⟨S32x24564, .f32⟩
  | 13 => ⟨S32x1x24564, .i32⟩
  | 14 => ⟨S32x16x24564, .i32⟩
  | 15 => ⟨S32x16x24564, .i1⟩
  | 16 => ⟨S32x16x1, .f32⟩
  | 17 => ⟨S32x16, .f32⟩
  | 18 => ⟨S32x16x1, .f32⟩
  | 19 => ⟨S_, .f32⟩
  | 20 => ⟨S_, .f32⟩
  | 21 => ⟨S32x16x24564, .f32⟩
  | 22 => ⟨S32x16x24564, .f32⟩
  | 23 => ⟨S32x16x24564, .f32⟩
  | 24 => ⟨S_, .f32⟩
  | 25 => ⟨S32x24564, .f32⟩
  | 26 => ⟨S32x1x24564, .i32⟩
  | 27 => ⟨S32x16x24564, .i32⟩
  | 28 => ⟨S32x16x24564, .i1⟩
  | 29 => ⟨S32x16x1, .f32⟩
  | 30 => ⟨S32x16, .f32⟩
  | 31 => ⟨S32x16x1, .f32⟩
  | 32 => ⟨S_, .f32⟩
  | 33 => ⟨S_, .f32⟩
  | 34 => ⟨S32x16x24564, .f32⟩
  | 35 => ⟨S32x16x24564, .f32⟩
  | 36 => ⟨S32x16x24564, .f32⟩
  | 37 => ⟨S_, .f32⟩
  | 38 => ⟨S32x24564, .f32⟩
  | 39 => ⟨S32x1x24564, .i32⟩
  | 40 => ⟨S32x16x24564, .i32⟩
  | 41 => ⟨S32x16x24564, .i1⟩
  | 42 => ⟨S32x16x1, .f32⟩
  | 43 => ⟨S32x16, .f32⟩
  | 44 => ⟨S32x16x1, .f32⟩
  | 45 => ⟨S_, .f32⟩
  | 46 => ⟨S_, .f32⟩
  | 47 => ⟨S32x16x24564, .f32⟩
  | 48 => ⟨S32x16x24564, .f32⟩
  | 49 => ⟨S32x16x24564, .f32⟩
  | 50 => ⟨S_, .f32⟩
  | 51 => ⟨S32x24564, .f32⟩
  | 52 => ⟨S24564x1, .f32⟩
  | 53 => ⟨S24564, .f32⟩
  | 54 => ⟨S1x24564, .f32⟩
  | 55 => ⟨S24564x1, .f32⟩
  | 56 => ⟨S24564, .f32⟩
  | 57 => ⟨S1x24564, .f32⟩
  | 58 => ⟨S24564x1, .f32⟩
  | 59 => ⟨S24564, .f32⟩
  | 60 => ⟨S1x24564, .f32⟩
  | 61 => ⟨S24564x1, .f32⟩
  | 62 => ⟨S24564, .f32⟩
  | 63 => ⟨S1x24564, .f32⟩
  | 64 => ⟨S32x24564, .f32⟩
  | 65 => ⟨S_, .f32⟩
  | 66 => ⟨S32x24564, .f32⟩
  | 67 => ⟨S32x24564, .f32⟩
  | 68 => ⟨S32x24564, .f32⟩
  | 69 => ⟨S32x24564, .f32⟩
  | 70 => ⟨S_, .f32⟩
  | 71 => ⟨S1x24564, .f32⟩
  | 72 => ⟨S1x24564, .f32⟩
  | 73 => ⟨S32x24564, .f32⟩
  | 74 => ⟨S32x24564, .f32⟩
  | 75 => ⟨S32x24564, .f32⟩
  | 76 => ⟨S_, .f32⟩
  | 77 => ⟨S32x24564, .f32⟩
  | 78 => ⟨S32x24564, .f32⟩
  | 79 => ⟨S32x24564, .f32⟩
  | 80 => ⟨S32x24564, .f32⟩
  | 81 => ⟨S_, .f32⟩
  | 82 => ⟨S1x24564, .f32⟩
  | 83 => ⟨S1x24564, .f32⟩
  | 84 => ⟨S32x24564, .f32⟩
  | 85 => ⟨S32x24564, .f32⟩
  | 86 => ⟨S32x24564, .f32⟩
  | 87 => ⟨S32x24564, .f32⟩
  | 88 => ⟨S32x24564, .f32⟩
  | 89 => ⟨S32x24564, .f32⟩
  | 90 => ⟨S_, .f32⟩
  | 91 => ⟨S32x24564, .f32⟩
  | 92 => ⟨S32x24564, .f32⟩
  | 93 => ⟨S32x24564, .f32⟩
  | 94 => ⟨S32x24564, .f32⟩
  | 95 => ⟨S32x24564, .f32⟩
  | 96 => ⟨S32x24564, .f32⟩
  | 97 => ⟨S_, .f32⟩
  | 98 => ⟨S32x24564, .f32⟩
  | 99 => ⟨S32x24564, .f32⟩
  | 100 => ⟨S32x24564x1, .f32⟩
  | 101 => ⟨S32x24564x1, .f32⟩
  | 102 => ⟨S32x24564x1, .f32⟩
  | 103 => ⟨S32x24564x1, .f32⟩
  | 104 => ⟨S32x24564x4, .f32⟩
  | 105 => ⟨S32x24564x4, .f32⟩
  | 106 => ⟨S32x24564x4, .f32⟩
  | 107 => ⟨S32x24564x1, .f32⟩
  | 108 => ⟨S32x24564x4, .f32⟩
  | 109 => ⟨S32x24564x4, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S32x24564, .f32⟩
  | 117 => ⟨S_, .f32⟩
  | 118 => ⟨S32x24564, .f32⟩
  | 119 => ⟨S32x24564, .f32⟩
  | 120 => ⟨S32x24564x1, .f32⟩
  | 121 => ⟨S32x24564x2, .f32⟩
  | 122 => ⟨S32x24564x2, .f32⟩
  | 123 => ⟨S32x24564x2, .f32⟩
  | 124 => ⟨S_, .f32⟩
  | 125 => ⟨S32x24564, .f32⟩
  | 126 => ⟨S32x24564x1, .f32⟩
  | 127 => ⟨S32x24564x1, .f32⟩
  | _ => ⟨S32x24564x4, .f32⟩

abbrev hbmTy0_2 (i : Nat) : BufTy := match i % 128 with
  | 0 => ⟨S32x24564x2, .f32⟩
  | 1 => ⟨S32x24564x2, .f32⟩
  | 2 => ⟨S32x24564x1, .f32⟩
  | 3 => ⟨S32x24564, .f32⟩
  | 4 => ⟨S32x24564x1, .f32⟩
  | 5 => ⟨S32x24564, .f32⟩
  | 6 => ⟨S32x24564, .f32⟩
  | 7 => ⟨S32x24564, .f32⟩
  | 8 => ⟨S32x24564, .f32⟩
  | 9 => ⟨S_, .f32⟩
  | 10 => ⟨S_, .f32⟩
  | 11 => ⟨S_, .f32⟩
  | 12 => ⟨S_, .f32⟩
  | 13 => ⟨S32x24564, .f32⟩
  | 14 => ⟨S32x24564, .f32⟩
  | 15 => ⟨S_, .f32⟩
  | 16 => ⟨S32, .f32⟩
  | 17 => ⟨S_, .f32⟩
  | 18 => ⟨S32, .f32⟩
  | 19 => ⟨S32, .f32⟩
  | 20 => ⟨S32x24564, .f32⟩
  | 21 => ⟨S32x24564, .f32⟩
  | 22 => ⟨S32x24564, .f32⟩
  | 23 => ⟨S32x24564, .i32⟩
  | 24 => ⟨S32x24564, .f32⟩
  | 25 => ⟨S32x1, .f32⟩
  | 26 => ⟨S_, .f32⟩
  | 27 => ⟨S32x1, .f32⟩
  | 28 => ⟨S32x1, .f32⟩
  | 29 => ⟨S32x24564, .f32⟩
  | 30 => ⟨S32x24564, .i1⟩
  | 31 => ⟨S_, .f32⟩
  | 32 => ⟨S_, .f32⟩
  | 33 => ⟨S32x24564, .f32⟩
  | 34 => ⟨S32x24564, .f32⟩
  | 35 => ⟨S_, .f32⟩
  | 36 => ⟨S32, .f32⟩
  | 37 => ⟨S_, .f32⟩
  | 38 => ⟨S32, .f32⟩
  | 39 => ⟨S_, .f32⟩
  | 40 => ⟨S32, .f32⟩
  | 41 => ⟨S32, .f32⟩
  | 42 => ⟨S_, .f32⟩
  | 43 => ⟨S32, .f32⟩
  | 44 => ⟨S32, .f32⟩
  | 45 => ⟨S32, .f32⟩
  | 46 => ⟨S32, .f32⟩
  | 47 => ⟨S_, .f32⟩
  | 48 => ⟨S32, .f32⟩
  | 49 => ⟨S32, .f32⟩
  | 50 => ⟨S32, .f32⟩
  | 51 => ⟨S32x1, .f32⟩
  | 52 => ⟨S32x24564, .f32⟩
  | 53 => ⟨S32x24564, .f32⟩
  | 54 => ⟨S_, .f32⟩
  | 55 => ⟨S32x24564, .f32⟩
  | 56 => ⟨S32x24564, .f32⟩
  | 57 => ⟨S_, .f32⟩
  | 58 => ⟨S32, .f32⟩
  | 59 => ⟨S32, .f32⟩
  | 60 => ⟨S32, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | _ => ⟨S32x24564x4, .f32⟩

abbrev hbmTy (i : Nat) : BufTy := match i / 128 with
  | 0 => hbmTy0_0 i
  | 1 => hbmTy0_1 i
  | 2 => hbmTy0_2 i
  | _ => ⟨S32x24564x4, .f32⟩

abbrev bufTy : (tb : Table) → Fin (tcTables nBuf tb) → BufTy
  | .hbm, ⟨i, _⟩ => hbmTy i
  | _, _ => ⟨S32x24564x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_cst_3 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_cst_4 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_cst_5 : Ref sig .tc := ⟨.hbm, 76, rfl⟩
abbrev main_v66 : Ref sig .tc := ⟨.hbm, 77, rfl⟩
abbrev main_cst_6 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_c : Ref sig .tc := ⟨.hbm, 84, rfl⟩
abbrev main_call0_v0 : Ref sig .tc := ⟨.hbm, 85, rfl⟩
abbrev main_call0_v1 : Ref sig .tc := ⟨.hbm, 86, rfl⟩
abbrev main_v72 : Ref sig .tc := ⟨.hbm, 87, rfl⟩
abbrev main_c_7 : Ref sig .tc := ⟨.hbm, 88, rfl⟩
abbrev main_v73 : Ref sig .tc := ⟨.hbm, 89, rfl⟩
abbrev main_cst_8 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_c_9 : Ref sig .tc := ⟨.hbm, 96, rfl⟩
abbrev main_call1_v0 : Ref sig .tc := ⟨.hbm, 97, rfl⟩
abbrev main_call1_v1 : Ref sig .tc := ⟨.hbm, 98, rfl⟩
abbrev main_v79 : Ref sig .tc := ⟨.hbm, 99, rfl⟩
abbrev main_c_10 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_c_11 : Ref sig .tc := ⟨.hbm, 107, rfl⟩
abbrev main_call2_v0 : Ref sig .tc := ⟨.hbm, 108, rfl⟩
abbrev main_call2_v1 : Ref sig .tc := ⟨.hbm, 109, rfl⟩
abbrev main_v86 : Ref sig .tc := ⟨.hbm, 110, rfl⟩
abbrev main_c_12 : Ref sig .tc := ⟨.hbm, 111, rfl⟩
abbrev main_v87 : Ref sig .tc := ⟨.hbm, 112, rfl⟩
abbrev main_c_13 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_cst_14 : Ref sig .tc := ⟨.hbm, 117, rfl⟩
abbrev main_call4_v0 : Ref sig .tc := ⟨.hbm, 118, rfl⟩
abbrev main_call4_v1 : Ref sig .tc := ⟨.hbm, 119, rfl⟩
abbrev main_v91 : Ref sig .tc := ⟨.hbm, 120, rfl⟩
abbrev main_cst_15 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_cst_16 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_cst_17 : Ref sig .tc := ⟨.hbm, 134, rfl⟩
abbrev main_call5_v0 : Ref sig .tc := ⟨.hbm, 135, rfl⟩
abbrev main_call5_v1 : Ref sig .tc := ⟨.hbm, 136, rfl⟩
abbrev main_call5_v2 : Ref sig .tc := ⟨.hbm, 137, rfl⟩
abbrev main_v103 : Ref sig .tc := ⟨.hbm, 138, rfl⟩
abbrev main_cst_18 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_cst_19 : Ref sig .tc := ⟨.hbm, 147, rfl⟩
abbrev main_call6_v0 : Ref sig .tc := ⟨.hbm, 148, rfl⟩
abbrev main_call6_v1 : Ref sig .tc := ⟨.hbm, 149, rfl⟩
abbrev main_call6_v2 : Ref sig .tc := ⟨.hbm, 150, rfl⟩
abbrev main_v111 : Ref sig .tc := ⟨.hbm, 151, rfl⟩
abbrev main_cst_20 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_cst_21 : Ref sig .tc := ⟨.hbm, 160, rfl⟩
abbrev main_call7_v0 : Ref sig .tc := ⟨.hbm, 161, rfl⟩
abbrev main_call7_v1 : Ref sig .tc := ⟨.hbm, 162, rfl⟩
abbrev main_call7_v2 : Ref sig .tc := ⟨.hbm, 163, rfl⟩
abbrev main_v119 : Ref sig .tc := ⟨.hbm, 164, rfl⟩
abbrev main_cst_22 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_cst_23 : Ref sig .tc := ⟨.hbm, 173, rfl⟩
abbrev main_call8_v0 : Ref sig .tc := ⟨.hbm, 174, rfl⟩
abbrev main_call8_v1 : Ref sig .tc := ⟨.hbm, 175, rfl⟩
abbrev main_call8_v2 : Ref sig .tc := ⟨.hbm, 176, rfl⟩
abbrev main_v127 : Ref sig .tc := ⟨.hbm, 177, rfl⟩
abbrev main_cst_24 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_cst_25 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_cst_26 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_cst_27 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_cst_28 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_cst_29 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩
abbrev main_cst_30 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_v177 : Ref sig .tc := ⟨.hbm, 234, rfl⟩
abbrev main_v178 : Ref sig .tc := ⟨.hbm, 235, rfl⟩
abbrev main_v179 : Ref sig .tc := ⟨.hbm, 236, rfl⟩
abbrev main_v180 : Ref sig .tc := ⟨.hbm, 237, rfl⟩
abbrev main_cst_31 : Ref sig .tc := ⟨.hbm, 238, rfl⟩
abbrev main_v181 : Ref sig .tc := ⟨.hbm, 239, rfl⟩
abbrev main_cst_32 : Ref sig .tc := ⟨.hbm, 240, rfl⟩
abbrev main_v182 : Ref sig .tc := ⟨.hbm, 241, rfl⟩
abbrev main_v183 : Ref sig .tc := ⟨.hbm, 242, rfl⟩
abbrev main_call9_cst : Ref sig .tc := ⟨.hbm, 243, rfl⟩
abbrev main_call9_v0 : Ref sig .tc := ⟨.hbm, 244, rfl⟩
abbrev main_call9_cst_0 : Ref sig .tc := ⟨.hbm, 245, rfl⟩
abbrev main_call9_v1 : Ref sig .tc := ⟨.hbm, 246, rfl⟩
abbrev main_call9_v2 : Ref sig .tc := ⟨.hbm, 247, rfl⟩
abbrev main_call9_v3 : Ref sig .tc := ⟨.hbm, 248, rfl⟩
abbrev main_call9_v4 : Ref sig .tc := ⟨.hbm, 249, rfl⟩
abbrev main_call9_v5 : Ref sig .tc := ⟨.hbm, 250, rfl⟩
abbrev main_call9_v6 : Ref sig .tc := ⟨.hbm, 251, rfl⟩
abbrev main_call9_cst_1 : Ref sig .tc := ⟨.hbm, 252, rfl⟩
abbrev main_call9_v7 : Ref sig .tc := ⟨.hbm, 253, rfl⟩
abbrev main_call9_v8 : Ref sig .tc := ⟨.hbm, 254, rfl⟩
abbrev main_call9_v9 : Ref sig .tc := ⟨.hbm, 255, rfl⟩
abbrev main_call9_v10 : Ref sig .tc := ⟨.hbm, 256, rfl⟩
abbrev main_v184 : Ref sig .tc := ⟨.hbm, 257, rfl⟩
abbrev main_v185 : Ref sig .tc := ⟨.hbm, 258, rfl⟩
abbrev main_v186 : Ref sig .tc := ⟨.hbm, 259, rfl⟩
abbrev main_v187 : Ref sig .tc := ⟨.hbm, 260, rfl⟩
abbrev main_v188 : Ref sig .tc := ⟨.hbm, 261, rfl⟩
abbrev main_v189 : Ref sig .tc := ⟨.hbm, 262, rfl⟩
abbrev main_v190 : Ref sig .tc := ⟨.hbm, 263, rfl⟩
abbrev main_v191 : Ref sig .tc := ⟨.hbm, 264, rfl⟩
abbrev main_cst_33 : Ref sig .tc := ⟨.hbm, 265, rfl⟩
abbrev main_v192 : Ref sig .tc := ⟨.hbm, 266, rfl⟩
abbrev main_cst_34 : Ref sig .tc := ⟨.hbm, 267, rfl⟩
abbrev main_call11_v0 : Ref sig .tc := ⟨.hbm, 268, rfl⟩
abbrev main_call11_v1 : Ref sig .tc := ⟨.hbm, 269, rfl⟩
abbrev main_v193 : Ref sig .tc := ⟨.hbm, 270, rfl⟩
abbrev main_cst_35 : Ref sig .tc := ⟨.hbm, 271, rfl⟩
abbrev main_v194 : Ref sig .tc := ⟨.hbm, 272, rfl⟩
abbrev main_cst_36 : Ref sig .tc := ⟨.hbm, 273, rfl⟩
abbrev main_v195 : Ref sig .tc := ⟨.hbm, 274, rfl⟩
abbrev main_v196 : Ref sig .tc := ⟨.hbm, 275, rfl⟩
abbrev main_v197 : Ref sig .tc := ⟨.hbm, 276, rfl⟩
abbrev main_v198 : Ref sig .tc := ⟨.hbm, 277, rfl⟩
abbrev main_v199 : Ref sig .tc := ⟨.hbm, 278, rfl⟩
abbrev main_v200 : Ref sig .tc := ⟨.hbm, 279, rfl⟩
abbrev main_v201 : Ref sig .tc := ⟨.hbm, 280, rfl⟩
abbrev main_v202 : Ref sig .tc := ⟨.hbm, 281, rfl⟩
abbrev main_cst_37 : Ref sig .tc := ⟨.hbm, 282, rfl⟩
abbrev main_v203 : Ref sig .tc := ⟨.hbm, 283, rfl⟩
abbrev main_v204 : Ref sig .tc := ⟨.hbm, 284, rfl⟩
abbrev main_v205 : Ref sig .tc := ⟨.hbm, 285, rfl⟩
abbrev main_v206 : Ref sig .tc := ⟨.hbm, 286, rfl⟩
abbrev main_cst_38 : Ref sig .tc := ⟨.hbm, 287, rfl⟩
abbrev main_call13_v0 : Ref sig .tc := ⟨.hbm, 288, rfl⟩
abbrev main_call13_v1 : Ref sig .tc := ⟨.hbm, 289, rfl⟩
abbrev main_v207 : Ref sig .tc := ⟨.hbm, 290, rfl⟩
abbrev main_cst_39 : Ref sig .tc := ⟨.hbm, 291, rfl⟩
abbrev main_v208 : Ref sig .tc := ⟨.hbm, 292, rfl⟩
abbrev main_cst_40 : Ref sig .tc := ⟨.hbm, 293, rfl⟩
abbrev main_v209 : Ref sig .tc := ⟨.hbm, 294, rfl⟩
abbrev main_cst_41 : Ref sig .tc := ⟨.hbm, 295, rfl⟩
abbrev main_v210 : Ref sig .tc := ⟨.hbm, 296, rfl⟩
abbrev main_v211 : Ref sig .tc := ⟨.hbm, 297, rfl⟩
abbrev main_cst_42 : Ref sig .tc := ⟨.hbm, 298, rfl⟩
abbrev main_v212 : Ref sig .tc := ⟨.hbm, 299, rfl⟩
abbrev main_v213 : Ref sig .tc := ⟨.hbm, 300, rfl⟩
abbrev main_v214 : Ref sig .tc := ⟨.hbm, 301, rfl⟩
abbrev main_v215 : Ref sig .tc := ⟨.hbm, 302, rfl⟩
abbrev main_cst_43 : Ref sig .tc := ⟨.hbm, 303, rfl⟩
abbrev main_v216 : Ref sig .tc := ⟨.hbm, 304, rfl⟩
abbrev main_v217 : Ref sig .tc := ⟨.hbm, 305, rfl⟩
abbrev main_v218 : Ref sig .tc := ⟨.hbm, 306, rfl⟩
abbrev main_v219 : Ref sig .tc := ⟨.hbm, 307, rfl⟩
abbrev main_v220 : Ref sig .tc := ⟨.hbm, 308, rfl⟩
abbrev main_v221 : Ref sig .tc := ⟨.hbm, 309, rfl⟩
abbrev main_cst_44 : Ref sig .tc := ⟨.hbm, 310, rfl⟩
abbrev main_v222 : Ref sig .tc := ⟨.hbm, 311, rfl⟩
abbrev main_v223 : Ref sig .tc := ⟨.hbm, 312, rfl⟩
abbrev main_cst_45 : Ref sig .tc := ⟨.hbm, 313, rfl⟩
abbrev main_v224 : Ref sig .tc := ⟨.hbm, 314, rfl⟩
abbrev main_v225 : Ref sig .tc := ⟨.hbm, 315, rfl⟩
abbrev main_v226 : Ref sig .tc := ⟨.hbm, 316, rfl⟩
abbrev main_cst_46 : Ref sig .tc := ⟨.hbm, 317, rfl⟩
abbrev main_v227 : Ref sig .tc := ⟨.hbm, 318, rfl⟩
abbrev main_v228 : Ref sig .tc := ⟨.hbm, 319, rfl⟩
abbrev main_v229 : Ref sig .tc := ⟨.hbm, 320, rfl⟩
abbrev main_cst_47 : Ref sig .tc := ⟨.hbm, 321, rfl⟩
abbrev main_v230 : Ref sig .tc := ⟨.hbm, 322, rfl⟩
abbrev main_v231 : Ref sig .tc := ⟨.hbm, 323, rfl⟩

abbrev nD : Nat := 1
abbrev τ : Topo := Topo.v7x

variable {F : FTy → Type} [FloatOps F]
-- ==== Proof.Row.lean ====
/-
  The kernel body as ONE row function: what a batch row's lane vector is from the row's blocks, in the kernel's own
  vector operations. The matching of the sixteen objects is an iteration of one step, the threshold search an iteration
  of one trip.
-/
module

public import proofs.«01_k».proof.Proof.Gen.KernelIdeal.Skeleton

@[expose] public section

noncomputable section

namespace Cert.Proof

open Cert.KernelIdeal Cert.KernelIdeal.Gen
open Idealize.ShloMosaic Idealize.SL.Sem

variable {F : FTy → Type} [FloatOps F]

/-- The prior's number of every place of the plane: 128 times its line plus its lane. -/
def idxV : IVec S192x128 32 :=
  addi (muli (iota .tc S192x128 32 [0] iota_S192x128_d0_w32) (broadcast S192x128 128#32)) (iota .tc S192x128 32 [1] iota_S192x128_d1_w32)

/-- The places that carry a prior, the numbers below 24564. -/
def validV : IVec S192x128 1 := cmpi .slt idxV (broadcast S192x128 24564#32)

/-- A plane of the constant of the given bits. -/
abbrev cV (b : BitVec 32) : FVec F S192x128 .f32 := broadcast S192x128 (Scalar.ofBits .f32 b)

theorem slices4 (c : ℕ) (hc : c < 4) : S4x192x128.Slices ![c, 0, 0] S1x192x128 := by
  refine ⟨rfl, fun a => ?_⟩; fin_cases a <;> simp <;> omega

/-- Channel `c` of a four-channel block. -/
def chan4 (x : Vec F S1x4x192x128 .f32) (c : ℕ) (hc : c < 4) : FVec F S192x128 .f32 :=
  shapeCast S192x128 (extractStridedSlice S1x192x128 ![c, 0, 0] (shapeCast S4x192x128 x shapeCasts_S1x4x192x128_S4x192x128) (slices4 c hc)) shapeCasts_S1x192x128_S192x128

theorem slices2 (c : ℕ) (hc : c < 2) : S2x192x128.Slices ![c, 0, 0] S1x192x128 := by
  refine ⟨rfl, fun a => ?_⟩; fin_cases a <;> simp <;> omega

/-- Channel `c` of a two-channel block. -/
def chan2 (x : Vec F S1x2x192x128 .f32) (c : ℕ) (hc : c < 2) : FVec F S192x128 .f32 :=
  shapeCast S192x128 (extractStridedSlice S1x192x128 ![c, 0, 0] (shapeCast S2x192x128 x shapeCasts_S1x2x192x128_S2x192x128) (slices2 c hc)) shapeCasts_S1x192x128_S192x128

theorem slicesB (c : ℕ) (hc : c < 4) : S16x4.Slices ![0, c] S16x1 := by
  refine ⟨rfl, fun a => ?_⟩; fin_cases a <;> simp <;> omega

/-- Coordinate `c` of every object's box. -/
def boxV (x : Vec F S1x16x4 .f32) (c : ℕ) (hc : c < 4) : FVec F S16x1x1 .f32 :=
  shapeCast S16x1x1 (extractStridedSlice S16x1 ![0, c] (shapeCast S16x4 x shapeCasts_S1x16x4_S16x4) (slicesB c hc)) shapeCasts_S16x1_S16x1x1

/-- A plane held for every object. -/
abbrev allObj (x : FVec F S192x128 .f32) : FVec F S16x192x128 .f32 :=
  broadcastTo S16x192x128 (shapeCast S1x192x128 x shapeCasts_S192x128_S1x192x128) broadcasts_S1x192x128_S16x192x128

/-- A number per object held on the plane. -/
abbrev allPri (x : FVec F S16x1x1 .f32) : FVec F S16x192x128 .f32 := broadcastTo S16x192x128 x broadcasts_S16x1x1_S16x192x128

/-- The priors' corners. -/
def px0V (pri : Vec F S1x4x192x128 .f32) : FVec F S192x128 .f32 := subf (chan4 pri 0 (by decide)) (divf (chan4 pri 2 (by decide)) (cV 0x40000000#32))
def py0V (pri : Vec F S1x4x192x128 .f32) : FVec F S192x128 .f32 := subf (chan4 pri 1 (by decide)) (divf (chan4 pri 3 (by decide)) (cV 0x40000000#32))
def px1V (pri : Vec F S1x4x192x128 .f32) : FVec F S192x128 .f32 := addf (chan4 pri 0 (by decide)) (divf (chan4 pri 2 (by decide)) (cV 0x40000000#32))
def py1V (pri : Vec F S1x4x192x128 .f32) : FVec F S192x128 .f32 := addf (chan4 pri 1 (by decide)) (divf (chan4 pri 3 (by decide)) (cV 0x40000000#32))

/-- The intersection of every object with every prior. -/
def interV (pri : Vec F S1x4x192x128 .f32) (box : Vec F S1x16x4 .f32) : FVec F S16x192x128 .f32 :=
  mulf
    (maximumf (broadcast S16x192x128 (Scalar.ofBits .f32 0x00000000#32))
      (subf (minimumf (allPri (boxV box 2 (by decide))) (allObj (px1V pri))) (maximumf (allPri (boxV box 0 (by decide))) (allObj (px0V pri)))))
    (maximumf (broadcast S16x192x128 (Scalar.ofBits .f32 0x00000000#32))
      (subf (minimumf (allPri (boxV box 3 (by decide))) (allObj (py1V pri))) (maximumf (allPri (boxV box 1 (by decide))) (allObj (py0V pri)))))

/-- The overlap of every object with every prior. -/
def ovV (pri : Vec F S1x4x192x128 .f32) (box : Vec F S1x16x4 .f32) : FVec F S16x192x128 .f32 :=
  divf (interV pri box)
    (subf
      (addf
        (allPri (mulf (subf (boxV box 2 (by decide)) (boxV box 0 (by decide))) (subf (boxV box 3 (by decide)) (boxV box 1 (by decide)))))
        (allObj (mulf (subf (px1V pri) (px0V pri)) (subf (py1V pri) (py0V pri)))))
      (interV pri box))

/-- Every object's best prior: the least number among the priors of the greatest overlap. -/
def pjV (ov : FVec F S16x192x128 .f32) : IVec S16x1x1 32 :=
  shapeCast S16x1x1
    (multiReductionI .minsi [1, 2] S16
      (select
        (cmpf .oeq ov (broadcastTo S16x192x128 (shapeCast S16x1x1
          (multiReduction .maximumf [1, 2] S16 ov 0xFF800000#32 reduces_S16x192x128_S16 (.inl rfl) rfl) shapeCasts_S16_S16x1x1) broadcasts_S16x1x1_S16x192x128))
        (broadcastTo S16x192x128 (shapeCast S1x192x128 (shapeCast S1x192x128 idxV shapeCasts_S192x128_S1x192x128) shapeCasts_S1x192x128_S1x192x128)
          broadcasts_S1x192x128_S16x192x128)
        (broadcast S16x192x128 24576#32))
      2147483647#32 reduces_S16x192x128_S16 rfl)
    shapeCasts_S16_S16x1x1

theorem slicesJ (j : ℕ) (hj : j < 16) : S16x1x1.Slices ![j, 0, 0] S1x1x1 := by
  refine ⟨rfl, fun a => ?_⟩; fin_cases a <;> simp <;> omega

theorem slicesP (j : ℕ) (hj : j < 16) : S16x192x128.Slices ![j, 0, 0] S1x192x128 := by
  refine ⟨rfl, fun a => ?_⟩; fin_cases a <;> simp <;> omega

/-- Object `j`'s number on the plane. -/
def atObj (x : FVec F S16x1x1 .f32) (j : ℕ) (hj : j < 16) : FVec F S192x128 .f32 :=
  broadcastTo S192x128
    (shapeCast S1x1 (shapeCast S1x1 (extractStridedSlice S1x1x1 ![j, 0, 0] x (slicesJ j hj)) shapeCasts_S1x1x1_S1x1) shapeCasts_S1x1_S1x1) broadcasts_S1x1_S192x128

/-- The bits of `2 + j`. -/
def codeBits : ℕ → BitVec 32
  | 0 => 0x40000000#32 | 1 => 0x40400000#32 | 2 => 0x40800000#32 | 3 => 0x40A00000#32
  | 4 => 0x40C00000#32 | 5 => 0x40E00000#32 | 6 => 0x41000000#32 | 7 => 0x41100000#32
  | 8 => 0x41200000#32 | 9 => 0x41300000#32 | 10 => 0x41400000#32 | 11 => 0x41500000#32
  | 12 => 0x41600000#32 | 13 => 0x41700000#32 | 14 => 0x41800000#32 | _ => 0x41880000#32

/-- What the matching carries: the best value met and the box it came from. -/
structure MSt (F : FTy → Type) where
  m : FVec F S192x128 .f32
  x0 : FVec F S192x128 .f32
  y0 : FVec F S192x128 .f32
  x1 : FVec F S192x128 .f32
  y1 : FVec F S192x128 .f32

/-- Object `j`'s value on the plane: `2 + j` at its own best prior, its overlap elsewhere. -/
def valJ (ov : FVec F S16x192x128 .f32) (pj : IVec S16x1x1 32) (j : ℕ) (hj : j < 16) : FVec F S192x128 .f32 :=
  select (cmpi .eq idxV (broadcastTo S192x128 (shapeCast S1x1 (extractStridedSlice S1x1x1 ![j, 0, 0] pj (slicesJ j hj)) shapeCasts_S1x1x1_S1x1) broadcasts_S1x1_S192x128))
    (cV (codeBits j)) (shapeCast S192x128 (extractStridedSlice S1x192x128 ![j, 0, 0] ov (slicesP j hj)) shapeCasts_S1x192x128_S192x128)

/-- One step of the matching: object `j` takes the places where its value is greater. -/
def matchStep (box : Vec F S1x16x4 .f32) (ov : FVec F S16x192x128 .f32) (pj : IVec S16x1x1 32) (j : ℕ) (hj : j < 16) (s : MSt F) : MSt F where
  m := select (cmpf .ogt (valJ ov pj j hj) s.m) (valJ ov pj j hj) s.m
  x0 := select (cmpf .ogt (valJ ov pj j hj) s.m) (atObj (boxV box 0 (by decide)) j hj) s.x0
  y0 := select (cmpf .ogt (valJ ov pj j hj) s.m) (atObj (boxV box 1 (by decide)) j hj) s.y0
  x1 := select (cmpf .ogt (valJ ov pj j hj) s.m) (atObj (boxV box 2 (by decide)) j hj) s.x1
  y1 := select (cmpf .ogt (valJ ov pj j hj) s.m) (atObj (boxV box 3 (by decide)) j hj) s.y1

/-- The matching after its first `n` objects. -/
def matchUpTo (box : Vec F S1x16x4 .f32) (ov : FVec F S16x192x128 .f32) (pj : IVec S16x1x1 32) : (n : ℕ) → n ≤ 16 → MSt F
  | 0, _ => ⟨cV 0xBF800000#32, cV 0x00000000#32, cV 0x00000000#32, cV 0x00000000#32, cV 0x00000000#32⟩
  | n + 1, h => matchStep box ov pj n h (matchUpTo box ov pj n (Nat.le_of_succ_le h))

/-- The positive places: the best value is not below the threshold. -/
def posV (s : MSt F) : IVec S192x128 1 := xori (cmpf .olt s.m (cV 0x3E4CCCCD#32)) (constantI S192x128 1 1#1)

/-- The sum of a plane. -/
def sumV (x : FVec F S192x128 .f32) : F .f32 :=
  extractAt ![0, 0, 0]
    (shapeCast S1x1x1 (multiReduction .add [1, 2] S1 (shapeCast S1x192x128 x shapeCasts_S192x128_S1x192x128) 0x00000000#32 reduces_S1x192x128_S1 (.inl rfl) rfl)
      shapeCasts_S1_S1x1x1) inpos_S1x1x1_p0_0_0

/-- The greatest number of a plane. -/
def maxV (x : FVec F S192x128 .f32) : F .f32 :=
  extractAt ![0, 0, 0]
    (shapeCast S1x1x1 (multiReduction .maximumf [1, 2] S1 (shapeCast S1x192x128 x shapeCasts_S192x128_S1x192x128) 0xFF800000#32 reduces_S1x192x128_S1 (.inl rfl) rfl)
      shapeCasts_S1_S1x1x1) inpos_S1x1x1_p0_0_0

/-- The localization error of every place, the sum over the four coordinates. -/
def l1V (pri locs : Vec F S1x4x192x128 .f32) (s : MSt F) : FVec F S192x128 .f32 :=
  addf (addf (addf
    (absf (subf (chan4 locs 0 (by decide)) (divf (subf (divf (addf s.x0 s.x1) (cV 0x40000000#32)) (chan4 pri 0 (by decide))) (divf (chan4 pri 2 (by decide)) (cV 0x41200000#32)))))
    (absf (subf (chan4 locs 1 (by decide)) (divf (subf (divf (addf s.y0 s.y1) (cV 0x40000000#32)) (chan4 pri 1 (by decide))) (divf (chan4 pri 3 (by decide)) (cV 0x41200000#32))))))
    (absf (subf (chan4 locs 2 (by decide)) (mulf (log (divf (subf s.x1 s.x0) (chan4 pri 2 (by decide)))) (cV 0x40A00000#32)))))
    (absf (subf (chan4 locs 3 (by decide)) (mulf (log (divf (subf s.y1 s.y0) (chan4 pri 3 (by decide)))) (cV 0x40A00000#32))))

/-- The localization error summed over the positive places. -/
def locV (pri locs : Vec F S1x4x192x128 .f32) (s : MSt F) : F .f32 := sumV (select (posV s) (l1V pri locs s) (cV 0x00000000#32))

/-- The cross entropy of every place at its label. -/
def ceV (sc : Vec F S1x2x192x128 .f32) (pos : IVec S192x128 1) : FVec F S192x128 .f32 :=
  subf
    (addf (maximumf (chan2 sc 0 (by decide)) (chan2 sc 1 (by decide)))
      (log (addf (addf (cV 0x00000000#32) (exp (subf (chan2 sc 0 (by decide)) (maximumf (chan2 sc 0 (by decide)) (chan2 sc 1 (by decide))))))
        (exp (subf (chan2 sc 1 (by decide)) (maximumf (chan2 sc 0 (by decide)) (chan2 sc 1 (by decide))))))))
    (select pos (chan2 sc 1 (by decide)) (chan2 sc 0 (by decide)))

/-- The number of positive places. -/
def nPosV (pos : IVec S192x128 1) : F .f32 := sumV (select pos (cV 0x3F800000#32) (cV 0x00000000#32))

/-- The cross entropy summed over the positive places. -/
def confV (sc : Vec F S1x2x192x128 .f32) (pos : IVec S192x128 1) : F .f32 := sumV (select pos (ceV sc pos) (cV 0x00000000#32))

/-- The losses the hard negatives are chosen from: the cross entropy at the negative priors, zero elsewhere. -/
def negV (sc : Vec F S1x2x192x128 .f32) (pos : IVec S192x128 1) : FVec F S192x128 .f32 :=
  select (andi validV (xori pos (constantI S192x128 1 1#1))) (ceV sc pos) (cV 0x00000000#32)

/-- A single number of the given bits. -/
abbrev c1 (b : BitVec 32) : FVec F S1x1 .f32 := broadcast S1x1 (Scalar.ofBits .f32 b)

/-- How many hard negatives: three times the positives. -/
def kV (pos : IVec S192x128 1) : FVec F S1x1 .f32 := mulf (c1 0x40400000#32) (broadcast S1x1 (nPosV pos))

/-- How many places lie above a number. -/
def cntV (v : FVec F S192x128 .f32) (t : FVec F S1x1 .f32) : FVec F S1x1 .f32 :=
  broadcast S1x1 (sumV (select (cmpf .ogt v (broadcastTo S192x128 t broadcasts_S1x1_S192x128)) (cV 0x3F800000#32) (cV 0x00000000#32)))

/-- The point of the interval at the fraction of the given bits. -/
def midV (p : FVec F S1x1 .f32 × FVec F S1x1 .f32) (b : BitVec 32) : FVec F S1x1 .f32 := addf p.1 (mulf (subf p.2 p.1) (c1 b))

/-- One trip of the search: the interval shrinks to the quarter that holds the threshold. -/
def trip (v : FVec F S192x128 .f32) (k : FVec F S1x1 .f32) (p : FVec F S1x1 .f32 × FVec F S1x1 .f32) : FVec F S1x1 .f32 × FVec F S1x1 .f32 :=
  (select (cmpf .oge (cntV v (midV p 0x3F400000#32)) k) (midV p 0x3F400000#32)
      (select (cmpf .oge (cntV v (midV p 0x3F000000#32)) k) (midV p 0x3F000000#32)
        (select (cmpf .oge (cntV v (midV p 0x3E800000#32)) k) (midV p 0x3E800000#32) p.1)),
    select (cmpf .olt (cntV v (midV p 0x3E800000#32)) k) (midV p 0x3E800000#32)
      (select (cmpf .olt (cntV v (midV p 0x3F000000#32)) k) (midV p 0x3F000000#32)
        (select (cmpf .olt (cntV v (midV p 0x3F400000#32)) k) (midV p 0x3F400000#32) p.2)))

/-- The interval the search starts from: zero to the greatest loss plus one. -/
def init0 (v : FVec F S192x128 .f32) : FVec F S1x1 .f32 × FVec F S1x1 .f32 :=
  (c1 0x00000000#32, addf (broadcast S1x1 (maxV v)) (c1 0x3F800000#32))

/-- Twelve trips of the search from an interval. -/
@[irreducible] def searched (v : FVec F S192x128 .f32) (k : FVec F S1x1 .f32) (init : FVec F S1x1 .f32 × FVec F S1x1 .f32) : FVec F S1x1 .f32 × FVec F S1x1 .f32 :=
  (List.finRange 12).foldl (fun p _ => trip v k p) init

/-- The threshold the search ends at. -/
def searchHi (v : FVec F S192x128 .f32) (k : FVec F S1x1 .f32) (init : FVec F S1x1 .f32 × FVec F S1x1 .f32) : FVec F S1x1 .f32 := (searched v k init).2

/-- The hard negatives' sum at a threshold. -/
def hardV (v : FVec F S192x128 .f32) (k hi : FVec F S1x1 .f32) : FVec F S1x1 .f32 :=
  addf (broadcast S1x1 (sumV (select (cmpf .ogt v (broadcastTo S192x128 hi broadcasts_S1x1_S192x128)) v (cV 0x00000000#32))))
    (mulf (maximumf (subf k (cntV v hi)) (c1 0x00000000#32)) hi)

/-- A number in lane `b` of the lanes, zero in the others. -/
def laneV (b : BitVec 32) (x : FVec F S1x1 .f32) : FVec F S1x128 .f32 :=
  select (cmpi .eq (iota .tc S1x128 32 [1] iota_S1x128_d1_w32) (broadcast S1x128 b))
    (broadcastTo S1x128 (shapeCast S1x1 x shapeCasts_S1x1_S1x1) broadcasts_S1x1_S1x128) (broadcast S1x128 (Scalar.ofBits .f32 0x00000000#32))

/-- The lanes of a row, from its four numbers. -/
def lanesV (loc conf hard npos : FVec F S1x1 .f32) : FVec F S1x1x128 .f32 :=
  shapeCast S1x1x128 (addf (addf (addf (laneV 0#32 loc) (laneV 1#32 conf)) (laneV 2#32 hard)) (laneV 3#32 npos)) shapeCasts_S1x128_S1x1x128

/-- The matching of a row. -/
abbrev rowM (pri : Vec F S1x4x192x128 .f32) (box : Vec F S1x16x4 .f32) : MSt F := matchUpTo box (ovV pri box) (pjV (ovV pri box)) 16 (Nat.le_refl 16)

/-- The lanes of a row, given the threshold the search ends at. -/
def rowAt (pri : Vec F S1x4x192x128 .f32) (box : Vec F S1x16x4 .f32) (locs : Vec F S1x4x192x128 .f32) (sc : Vec F S1x2x192x128 .f32)
    (hi : FVec F S1x1 .f32) : FVec F S1x1x128 .f32 :=
  lanesV (broadcast S1x1 (locV pri locs (rowM pri box))) (broadcast S1x1 (confV sc (posV (rowM pri box))))
    (hardV (negV sc (posV (rowM pri box))) (kV (posV (rowM pri box))) hi) (broadcast S1x1 (nPosV (posV (rowM pri box))))

end Cert.Proof

end
-- ==== Proof.Body.lean ====
/-
  The kernel body as four equal rows.
-/
module

public import proofs.«01_k».proof.Proof.Row

@[expose] public section

noncomputable section

namespace Cert.Proof

open Cert.KernelIdeal Cert.KernelIdeal.Gen
open Idealize.ShloMosaic Idealize.SL.Sem

variable {F : FTy → Type} [FloatOps F]

theorem inbBox (b : ℕ) (hb : b < 4) (a : Fin 3) : (![b, 0, 0] : Fin 3 → ℕ) a + S1x16x4.size a ≤ S4x16x4.size a := by
  fin_cases a <;> simp <;> omega
theorem inbLoc (b : ℕ) (hb : b < 4) (a : Fin 4) : (![b, 0, 0, 0] : Fin 4 → ℕ) a + S1x4x192x128.size a ≤ S4x4x192x128.size a := by
  fin_cases a <;> simp <;> omega
theorem inbSc (b : ℕ) (hb : b < 4) (a : Fin 4) : (![b, 0, 0, 0] : Fin 4 → ℕ) a + S1x2x192x128.size a ≤ S4x2x192x128.size a := by
  fin_cases a <;> simp <;> omega
theorem inbOut (b : ℕ) (hb : b < 4) (a : Fin 3) : (![b, 0, 0] : Fin 3 → ℕ) a + S1x1x128.size a ≤ S4x1x128.size a := by
  fin_cases a <;> simp <;> omega

/-- One row: the four blocks loaded, the search run, the lanes stored. -/
def rowProg (arg1 : Memref sig .tc .vmem S4x4x192x128 .f32) (arg2 : Memref sig .tc .vmem S4x2x192x128 .f32) (arg3 : Memref sig .tc .vmem S4x16x4 .f32)
    (arg4 : Memref sig .tc .vmem S1x4x192x128 .f32) (arg5 : Memref sig .tc .vmem S4x1x128 .f32) (b : ℕ) (hb : b < 4) :
    Prog (TpuEff nD τ sig (Elt F) Λ₀ .tc) PUnit := do
  let pri : Vec F S1x4x192x128 .f32 ← Prog.lift (.load arg4 (Rect.unit (s := S1x4x192x128) ![0, 0, 0, 0] S1x4x192x128.size inb_S1x4x192x128_S1x4x192x128_0_0_0_0).toLoadRect (View.loadsAt_vmem h_S1x4x192x128))
  let box : Vec F S1x16x4 .f32 ← Prog.lift (.load arg3 (Rect.unit (s := S4x16x4) ![b, 0, 0] S1x16x4.size (inbBox b hb)).toLoadRect (View.loadsAt_vmem h_S1x16x4))
  let locs : Vec F S1x4x192x128 .f32 ← Prog.lift (.load arg1 (Rect.unit (s := S4x4x192x128) ![b, 0, 0, 0] S1x4x192x128.size (inbLoc b hb)).toLoadRect (View.loadsAt_vmem h_S1x4x192x128))
  let sc : Vec F S1x2x192x128 .f32 ← Prog.lift (.load arg2 (Rect.unit (s := S4x2x192x128) ![b, 0, 0, 0] S1x2x192x128.size (inbSc b hb)).toLoadRect (View.loadsAt_vmem h_S1x2x192x128))
  let _ ← Prog.lift (.load arg5 (Rect.unit (s := S4x1x128) ![b, 0, 0] S1x1x128.size (inbOut b hb)).toLoadRect (View.loadsAt_vmem h_S1x1x128))
  Prog.lift (.store arg5 (Rect.unit (s := S4x1x128) ![b, 0, 0] S1x1x128.size (inbOut b hb)) (rowAt pri box locs sc (searchHi (negV sc (posV (rowM pri box))) (kV (posV (rowM pri box))) (init0 (negV sc (posV (rowM pri box)))))) Finset.univ (View.stores_vmem_bits_univ h_S1x1x128 rfl) (.inl rfl))

/-- The four rows in order. -/
def rowsProg (arg1 : Memref sig .tc .vmem S4x4x192x128 .f32) (arg2 : Memref sig .tc .vmem S4x2x192x128 .f32) (arg3 : Memref sig .tc .vmem S4x16x4 .f32)
    (arg4 : Memref sig .tc .vmem S1x4x192x128 .f32) (arg5 : Memref sig .tc .vmem S4x1x128 .f32) :
    Prog (TpuEff nD τ sig (Elt F) Λ₀ .tc) PUnit := do
  rowProg arg1 arg2 arg3 arg4 arg5 0 (by decide)
  rowProg arg1 arg2 arg3 arg4 arg5 1 (by decide)
  rowProg arg1 arg2 arg3 arg4 arg5 2 (by decide)
  rowProg arg1 arg2 arg3 arg4 arg5 3 (by decide)

section Loops

variable (i : grid0.Coords) (arg1 : Memref sig .tc .vmem S4x4x192x128 .f32) (harg1 : arg1.IsWhole) (arg2 : Memref sig .tc .vmem S4x2x192x128 .f32) (harg2 : arg2.IsWhole)
    (arg3 : Memref sig .tc .vmem S4x16x4 .f32) (harg3 : arg3.IsWhole) (arg4 : Memref sig .tc .vmem S1x4x192x128 .f32) (harg4 : arg4.IsWhole)
    (arg5 : Memref sig .tc .vmem S4x1x128 .f32) (harg5 : arg5.IsWhole)

/-- A loop whose region is the search's trip continues with the fold of the trips. -/
theorem loop_eq {E : Type → Type} {β : Type} (l : Scf.Loop 32) (hok : l.OK) (hl : l.trips = 12) (v : FVec F S192x128 .f32) (k : FVec F S1x1 .f32)
    (init : FVec F S1x1 .f32 × FVec F S1x1 .f32) (body : Fin l.trips → FVec F S1x1 .f32 × FVec F S1x1 .f32 → Prog E (FVec F S1x1 .f32 × FVec F S1x1 .f32))
    (hg : ∀ j p, body j p = .ret (trip v k p)) (g : FVec F S1x1 .f32 × FVec F S1x1 .f32 → Prog E β) :
    (Scf.Loop.for l hok init body >>= g) = g (searched v k init) := by
  obtain ⟨lb, ub, st⟩ := l
  refine (Scf.for_pure_bind lb ub st hok init body (fun _ p => trip v k p) hg g).trans ?_
  have hl' : Scf.trips lb ub st = 12 := hl
  rw [Scf.fold_eq, searched]
  clear hg body hok hl
  revert hl'
  generalize Scf.trips lb ub st = n
  rintro rfl
  rfl

theorem part17_eq (v6 : IVec S192x128 1) (v572 : IVec S192x128 1) (v650 : FVec F S192x128 .f32) (v657 : F .f32) :
    k0_part17 i arg1 harg1 arg2 harg2 arg3 harg3 arg4 harg4 arg5 harg5 v6 v572 v650 v657
      = pure ⟨k0_pay161 v657, k0_pay162 v572 v650, (searched (k0_pay163 v6 v572 v650) (k0_pay164 v657) (k0_pay165 (F := F), k0_pay166 v6 v572 v650)).2,
          k0_pay168 v6 v572 v650 (searched (k0_pay163 v6 v572 v650) (k0_pay164 v657) (k0_pay165 (F := F), k0_pay166 v6 v572 v650)).2,
          k0_pay169 v6 v572 v650 v657 (searched (k0_pay163 v6 v572 v650) (k0_pay164 v657) (k0_pay165 (F := F), k0_pay166 v6 v572 v650)).2⟩ := by
  rw [k0_part17_eq_skeleton, k0_part17_skel]
  exact (loop_eq _ _ (by decide) (k0_pay163 v6 v572 v650) (k0_pay164 v657) _ _ (by intro j p; rfl) _).trans rfl

theorem part31_eq (v1361 : FVec F S1x1 .f32) (v1387 : FVec F S192x128 .f32) (v1395 : FVec F S1x1 .f32) (v1404 : IVec S192x128 1) :
    k0_part31 i arg1 harg1 arg2 harg2 arg3 harg3 arg4 harg4 arg5 harg5 v1361 v1387 v1395 v1404
      = pure ⟨k0_pay298 v1387 v1395 v1404 (searched (k0_pay293 v1387 v1404) (k0_pay294 v1395) (k0_pay295 (F := F), k0_pay296 v1387 v1404)).2,
          iota .tc S1x128 32 [1] iota_S1x128_d1_w32, k0_pay299, k0_pay300 v1361, k0_pay301 (F := F)⟩ := by
  rw [k0_part31_eq_skeleton, k0_part31_skel]
  exact (loop_eq _ _ (by decide) (k0_pay293 v1387 v1404) (k0_pay294 v1395) _ _ (by intro j p; rfl) _).trans rfl

theorem part45_eq (v2098 : FVec F S1x1 .f32) (v2139 : FVec F S1x1 .f32) (v2143 : FVec F S192x128 .f32) (v2145 : FVec F S1x1 .f32) (v2146 : FVec F S1x1 .f32) (v2150 : F .f32) :
    k0_part45 i arg1 harg1 arg2 harg2 arg3 harg3 arg4 harg4 arg5 harg5 v2098 v2139 v2143 v2145 v2146 v2150
      = pure ⟨k0_pay433 v2143 v2145 (searched v2143 v2145 (v2146, k0_pay431 v2150)).2, iota .tc S1x128 32 [1] iota_S1x128_d1_w32, k0_pay434 v2098 v2139, k0_pay435⟩ := by
  rw [k0_part45_eq_skeleton, k0_part45_skel]
  exact (loop_eq _ _ (by decide) v2143 v2145 _ _ (by intro j p; rfl) _).trans rfl

theorem part58_eq (v2217 : IVec S192x128 1) (v2783 : IVec S192x128 1) (v2837 : FVec F S2x192x128 .f32) (v2842 : FVec F S192x128 .f32) (v2848 : FVec F S192x128 .f32) (v2850 : FVec F S192x128 .f32) :
    k0_part58 i arg1 harg1 arg2 harg2 arg3 harg3 arg4 harg4 arg5 harg5 v2217 v2783 v2837 v2842 v2848 v2850
      = pure ⟨k0_pay562 (F := F) v2783, k0_pay563 v2783 v2837 v2842 v2848 v2850, k0_pay564 v2217 v2783 v2837 v2842 v2848 v2850, k0_pay565 (F := F) v2783,
          (searched (k0_pay564 v2217 v2783 v2837 v2842 v2848 v2850) (k0_pay565 (F := F) v2783) (k0_pay566 (F := F), k0_pay567 v2217 v2783 v2837 v2842 v2848 v2850)).2,
          k0_pay569 v2217 v2783 v2837 v2842 v2848 v2850 (searched (k0_pay564 v2217 v2783 v2837 v2842 v2848 v2850) (k0_pay565 (F := F) v2783) (k0_pay566 (F := F), k0_pay567 v2217 v2783 v2837 v2842 v2848 v2850)).2,
          Scalar.ofBits .f32 0x3F800000#32, Scalar.ofBits .f32 0x00000000#32⟩ := by
  rw [k0_part58_eq_skeleton, k0_part58_skel]
  exact (loop_eq _ _ (by decide) (k0_pay564 v2217 v2783 v2837 v2842 v2848 v2850) (k0_pay565 (F := F) v2783) _ _ (by intro j p; rfl) _).trans rfl

end Loops

open Classical in
/-- A slice of numbers whose evidence is read off the relation alone: one term, however the relation is proved. -/
def sliceF {s : Shape} (t : Shape) (off : Fin s.rank → ℕ) (x : s.Idx → F .f32) : t.Idx → F .f32 :=
  if h : s.Slices off t then extractStridedSlice t off x h else broadcast t (Scalar.ofBits .f32 0#32)

theorem sliceF_eq {s : Shape} (t : Shape) (off : Fin s.rank → ℕ) (x : s.Idx → F .f32) (h : s.Slices off t) :
    extractStridedSlice t off x h = sliceF t off x := (dif_pos h).symm

open Classical in
/-- The same of words. -/
def sliceI {s : Shape} (t : Shape) (off : Fin s.rank → ℕ) (x : s.Idx → BitVec 32) : t.Idx → BitVec 32 :=
  if h : s.Slices off t then extractStridedSlice t off x h else broadcast t 0#32

theorem sliceI_eq {s : Shape} (t : Shape) (off : Fin s.rank → ℕ) (x : s.Idx → BitVec 32) (h : s.Slices off t) :
    extractStridedSlice t off x h = sliceI t off x := (dif_pos h).symm

set_option maxRecDepth 65536 in
set_option maxHeartbeats 0 in
/-- The printed kernel body is the four rows. -/
theorem kernel_eq (i : grid0.Coords) (arg1 : Memref sig .tc .vmem S4x4x192x128 .f32) (harg1 : arg1.IsWhole) (arg2 : Memref sig .tc .vmem S4x2x192x128 .f32) (harg2 : arg2.IsWhole)
    (arg3 : Memref sig .tc .vmem S4x16x4 .f32) (harg3 : arg3.IsWhole) (arg4 : Memref sig .tc .vmem S1x4x192x128 .f32) (harg4 : arg4.IsWhole)
    (arg5 : Memref sig .tc .vmem S4x1x128 .f32) (harg5 : arg5.IsWhole) :
    cc0__mbl_kernel (F := F) i arg1 harg1 arg2 harg2 arg3 harg3 arg4 harg4 arg5 harg5 = rowsProg arg1 arg2 arg3 arg4 arg5 := by
  rw [cc0__mbl_kernel_eq_skeleton, cc0__mbl_kernel_skel, k0_part60_eq_skeleton, k0_part60_skel]
  simp only [k0_part5_eq_skeleton, k0_part5_skel, k0_part6_eq_skeleton, k0_part6_skel, k0_part7_eq_skeleton, k0_part7_skel, k0_part8_eq_skeleton, k0_part8_skel,
    k0_part9_eq_skeleton, k0_part9_skel, k0_part10_eq_skeleton, k0_part10_skel, k0_part11_eq_skeleton, k0_part11_skel, k0_part12_eq_skeleton,
    k0_part12_skel, k0_part13_eq_skeleton, k0_part13_skel, k0_part14_eq_skeleton, k0_part14_skel, k0_part15_eq_skeleton, k0_part15_skel,
    k0_part16_eq_skeleton, k0_part16_skel, k0_part18_eq_skeleton, k0_part18_skel, k0_part19_eq_skeleton, k0_part19_skel, k0_part20_eq_skeleton,
    k0_part20_skel, k0_part21_eq_skeleton, k0_part21_skel, k0_part22_eq_skeleton, k0_part22_skel, k0_part23_eq_skeleton, k0_part23_skel,
    k0_part24_eq_skeleton, k0_part24_skel, k0_part25_eq_skeleton, k0_part25_skel, k0_part26_eq_skeleton, k0_part26_skel, k0_part27_eq_skeleton,
    k0_part27_skel, k0_part28_eq_skeleton, k0_part28_skel, k0_part29_eq_skeleton, k0_part29_skel, k0_part30_eq_skeleton, k0_part30_skel,
    k0_part32_eq_skeleton, k0_part32_skel, k0_part33_eq_skeleton, k0_part33_skel, k0_part34_eq_skeleton, k0_part34_skel, k0_part35_eq_skeleton,
    k0_part35_skel, k0_part36_eq_skeleton, k0_part36_skel, k0_part37_eq_skeleton, k0_part37_skel, k0_part38_eq_skeleton, k0_part38_skel,
    k0_part39_eq_skeleton, k0_part39_skel, k0_part40_eq_skeleton, k0_part40_skel, k0_part41_eq_skeleton, k0_part41_skel, k0_part42_eq_skeleton,
    k0_part42_skel, k0_part43_eq_skeleton, k0_part43_skel, k0_part44_eq_skeleton, k0_part44_skel, k0_part46_eq_skeleton, k0_part46_skel,
    k0_part47_eq_skeleton, k0_part47_skel, k0_part48_eq_skeleton, k0_part48_skel, k0_part49_eq_skeleton, k0_part49_skel, k0_part50_eq_skeleton,
    k0_part50_skel, k0_part51_eq_skeleton, k0_part51_skel, k0_part52_eq_skeleton, k0_part52_skel, k0_part53_eq_skeleton, k0_part53_skel,
    k0_part54_eq_skeleton, k0_part54_skel, k0_part55_eq_skeleton, k0_part55_skel, k0_part56_eq_skeleton, k0_part56_skel, k0_part57_eq_skeleton,
    k0_part57_skel, k0_part59_eq_skeleton, k0_part59_skel, k0_pay1, k0_pay2, k0_pay3, k0_pay4, k0_pay5, k0_pay6, k0_pay7, k0_pay8, k0_pay9, k0_pay10,
    k0_pay11, k0_pay12, k0_pay13, k0_pay14, k0_pay15, k0_pay16, k0_pay17, k0_pay18, k0_pay19, k0_pay20, k0_pay21, k0_pay22, k0_pay23, k0_pay24, k0_pay25,
    k0_pay26, k0_pay27, k0_pay28, k0_pay29, k0_pay30, k0_pay31, k0_pay32, k0_pay33, k0_pay34, k0_pay35, k0_pay36, k0_pay37, k0_pay38, k0_pay39, k0_pay40,
    k0_pay41, k0_pay42, k0_pay43, k0_pay44, k0_pay45, k0_pay46, k0_pay47, k0_pay48, k0_pay49, k0_pay50, k0_pay51, k0_pay52, k0_pay53, k0_pay54, k0_pay55,
    k0_pay56, k0_pay57, k0_pay58, k0_pay59, k0_pay60, k0_pay61, k0_pay62, k0_pay63, k0_pay64, k0_pay65, k0_pay66, k0_pay67, k0_pay68, k0_pay69, k0_pay70,
    k0_pay71, k0_pay72, k0_pay73, k0_pay74, k0_pay75, k0_pay76, k0_pay77, k0_pay78, k0_pay79, k0_pay80, k0_pay81, k0_pay82, k0_pay83, k0_pay84, k0_pay85,
    k0_pay86, k0_pay87, k0_pay88, k0_pay89, k0_pay90, k0_pay91, k0_pay92, k0_pay93, k0_pay94, k0_pay95, k0_pay96, k0_pay97, k0_pay98, k0_pay99, k0_pay100,
    k0_pay101, k0_pay102, k0_pay103, k0_pay104, k0_pay105, k0_pay106, k0_pay107, k0_pay108, k0_pay109, k0_pay110, k0_pay111, k0_pay112, k0_pay113,
    k0_pay114, k0_pay115, k0_pay116, k0_pay117, k0_pay118, k0_pay119, k0_pay120, k0_pay121, k0_pay122, k0_pay123, k0_pay124, k0_pay125, k0_pay126,
    k0_pay127, k0_pay128, k0_pay129, k0_pay130, k0_pay131, k0_pay132, k0_pay133, k0_pay134, k0_pay135, k0_pay136, k0_pay137, k0_pay138, k0_pay139,
    k0_pay140, k0_pay141, k0_pay142, k0_pay143, k0_pay144, k0_pay145, k0_pay146, k0_pay147, k0_pay148, k0_pay149, k0_pay150, k0_pay151, k0_pay152,
    k0_pay153, k0_pay154, k0_pay155, k0_pay156, k0_pay157, k0_pay158, k0_pay159, k0_pay160, k0_pay161, k0_pay162, k0_pay163, k0_pay164, k0_pay165,
    k0_pay166, k0_pay167, k0_pay168, k0_pay169, k0_pay170, k0_pay171, k0_pay172, k0_pay173, k0_pay174, k0_pay175, k0_pay176, k0_pay177, k0_pay178,
    k0_pay179, k0_pay180, k0_pay181, k0_pay182, k0_pay183, k0_pay184, k0_pay185, k0_pay186, k0_pay187, k0_pay188, k0_pay189, k0_pay190, k0_pay191,
    k0_pay192, k0_pay193, k0_pay194, k0_pay195, k0_pay196, k0_pay197, k0_pay198, k0_pay199, k0_pay200, k0_pay201, k0_pay202, k0_pay203, k0_pay204,
    k0_pay205, k0_pay206, k0_pay207, k0_pay208, k0_pay209, k0_pay210, k0_pay211, k0_pay212, k0_pay213, k0_pay214, k0_pay215, k0_pay216, k0_pay217,
    k0_pay218, k0_pay219, k0_pay220, k0_pay221, k0_pay222, k0_pay223, k0_pay224, k0_pay225, k0_pay226, k0_pay227, k0_pay228, k0_pay229, k0_pay230,
    k0_pay231, k0_pay232, k0_pay233, k0_pay234, k0_pay235, k0_pay236, k0_pay237, k0_pay238, k0_pay239, k0_pay240, k0_pay241, k0_pay242, k0_pay243,
    k0_pay244, k0_pay245, k0_pay246, k0_pay247, k0_pay248, k0_pay249, k0_pay250, k0_pay251, k0_pay252, k0_pay253, k0_pay254, k0_pay255, k0_pay256,
    k0_pay257, k0_pay258, k0_pay259, k0_pay260, k0_pay261, k0_pay262, k0_pay263, k0_pay264, k0_pay265, k0_pay266, k0_pay267, k0_pay268, k0_pay269,
    k0_pay270, k0_pay271, k0_pay272, k0_pay273, k0_pay274, k0_pay275, k0_pay276, k0_pay277, k0_pay278, k0_pay279, k0_pay280, k0_pay281, k0_pay282,
    k0_pay283, k0_pay284, k0_pay285, k0_pay286, k0_pay287, k0_pay288, k0_pay289, k0_pay290, k0_pay291, k0_pay292, k0_pay293, k0_pay294, k0_pay295,
    k0_pay296, k0_pay297, k0_pay298, k0_pay299, k0_pay300, k0_pay301, k0_pay302, k0_pay303, k0_pay304, k0_pay305, k0_pay306, k0_pay307, k0_pay308,
    k0_pay309, k0_pay310, k0_pay311, k0_pay312, k0_pay313, k0_pay314, k0_pay315, k0_pay316, k0_pay317, k0_pay318, k0_pay319, k0_pay320, k0_pay321,
    k0_pay322, k0_pay323, k0_pay324, k0_pay325, k0_pay326, k0_pay327, k0_pay328, k0_pay329, k0_pay330, k0_pay331, k0_pay332, k0_pay333, k0_pay334,
    k0_pay335, k0_pay336, k0_pay337, k0_pay338, k0_pay339, k0_pay340, k0_pay341, k0_pay342, k0_pay343, k0_pay344, k0_pay345, k0_pay346, k0_pay347,
    k0_pay348, k0_pay349, k0_pay350, k0_pay351, k0_pay352, k0_pay353, k0_pay354, k0_pay355, k0_pay356, k0_pay357, k0_pay358, k0_pay359, k0_pay360,
    k0_pay361, k0_pay362, k0_pay363, k0_pay364, k0_pay365, k0_pay366, k0_pay367, k0_pay368, k0_pay369, k0_pay370, k0_pay371, k0_pay372, k0_pay373,
    k0_pay374, k0_pay375, k0_pay376, k0_pay377, k0_pay378, k0_pay379, k0_pay380, k0_pay381, k0_pay382, k0_pay383, k0_pay384, k0_pay385, k0_pay386,
    k0_pay387, k0_pay388, k0_pay389, k0_pay390, k0_pay391, k0_pay392, k0_pay393, k0_pay394, k0_pay395, k0_pay396, k0_pay397, k0_pay398, k0_pay399,
    k0_pay400, k0_pay401, k0_pay402, k0_pay403, k0_pay404, k0_pay405, k0_pay406, k0_pay407, k0_pay408, k0_pay409, k0_pay410, k0_pay411, k0_pay412,
    k0_pay413, k0_pay414, k0_pay415, k0_pay416, k0_pay417, k0_pay418, k0_pay419, k0_pay420, k0_pay421, k0_pay422, k0_pay423, k0_pay424, k0_pay425,
    k0_pay426, k0_pay427, k0_pay428, k0_pay429, k0_pay430, k0_pay431, k0_pay432, k0_pay433, k0_pay434, k0_pay435, k0_pay436, k0_pay437, k0_pay438,
    k0_pay439, k0_pay440, k0_pay441, k0_pay442, k0_pay443, k0_pay444, k0_pay445, k0_pay446, k0_pay447, k0_pay448, k0_pay449, k0_pay450, k0_pay451,
    k0_pay452, k0_pay453, k0_pay454, k0_pay455, k0_pay456, k0_pay457, k0_pay458, k0_pay459, k0_pay460, k0_pay461, k0_pay462, k0_pay463, k0_pay464,
    k0_pay465, k0_pay466, k0_pay467, k0_pay468, k0_pay469, k0_pay470, k0_pay471, k0_pay472, k0_pay473, k0_pay474, k0_pay475, k0_pay476, k0_pay477,
    k0_pay478, k0_pay479, k0_pay480, k0_pay481, k0_pay482, k0_pay483, k0_pay484, k0_pay485, k0_pay486, k0_pay487, k0_pay488, k0_pay489, k0_pay490,
    k0_pay491, k0_pay492, k0_pay493, k0_pay494, k0_pay495, k0_pay496, k0_pay497, k0_pay498, k0_pay499, k0_pay500, k0_pay501, k0_pay502, k0_pay503,
    k0_pay504, k0_pay505, k0_pay506, k0_pay507, k0_pay508, k0_pay509, k0_pay510, k0_pay511, k0_pay512, k0_pay513, k0_pay514, k0_pay515, k0_pay516,
    k0_pay517, k0_pay518, k0_pay519, k0_pay520, k0_pay521, k0_pay522, k0_pay523, k0_pay524, k0_pay525, k0_pay526, k0_pay527, k0_pay528, k0_pay529,
    k0_pay530, k0_pay531, k0_pay532, k0_pay533, k0_pay534, k0_pay535, k0_pay536, k0_pay537, k0_pay538, k0_pay539, k0_pay540, k0_pay541, k0_pay542,
    k0_pay543, k0_pay544, k0_pay545, k0_pay546, k0_pay547, k0_pay548, k0_pay549, k0_pay550, k0_pay551, k0_pay552, k0_pay553, k0_pay554, k0_pay555,
    k0_pay556, k0_pay557, k0_pay558, k0_pay559, k0_pay560, k0_pay561, k0_pay562, k0_pay563, k0_pay564, k0_pay565, k0_pay566, k0_pay567, k0_pay568,
    k0_pay569, k0_pay570, k0_pay571, k0_pay572, k0_pay573, k0_pay574, rowsProg, rowProg, rowAt, lanesV, laneV, hardV, init0, cntV, kV, negV, confV, nPosV,
    ceV, locV, l1V, maxV, sumV, posV, matchUpTo, matchStep, valJ, codeBits, atObj, pjV, ovV, interV, py1V, px1V, py0V, px0V, boxV, chan2, chan4, validV,
    idxV, sliceF_eq, sliceI_eq, part17_eq, part31_eq, part45_eq, part58_eq, bind_assoc, pure_bind, bind_pure_unit, rowM, searchHi, cV, c1, allObj, allPri, midV]

  rfl

end Cert.Proof

end
-- ==== Proof.Run.lean ====
/-
  The run of the program: what the body leaves in a block of the result, the pipeline's proof data, the body's
  obligation, and the run of the whole program from any memory with zero counters.
-/
module

public import proofs.«01_k».proof.Proof.Body
public import proofs.«01_k».proof.Proof.Gen.KernelIdeal.Frame

@[expose] public section

noncomputable section

namespace Cert.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- No variants: the program's loops are all inside the body. -/
abbrev noVar : Variants := Variants.none

/-- The lanes a row leaves, from the row's four blocks. -/
@[irreducible] def rowOut (pri : Vec F S1x4x192x128 .f32) (box : Vec F S1x16x4 .f32) (locs : Vec F S1x4x192x128 .f32) (sc : Vec F S1x2x192x128 .f32) :
    Vec F S1x1x128 .f32 :=
  rowAt pri box locs sc (searchHi (negV sc (posV (rowM pri box))) (kV (posV (rowM pri box))) (init0 (negV sc (posV (rowM pri box)))))

/-- Row `b` of a block of the result. -/
abbrev rOut (b : ℕ) (hb : b < 4) : Rect S4x1x128 := Rect.unit (s := S4x1x128) ![b, 0, 0] S1x1x128.size (inbOut b hb)

/-- The lanes of row `b`, from the four staged blocks. -/
def rowFrom (x0 : Vec F S4x4x192x128 .f32) (x1 : Vec F S4x2x192x128 .f32) (x2 : Vec F S4x16x4 .f32) (x3 : Vec F S1x4x192x128 .f32) (b : ℕ) (hb : b < 4) :
    Vec F S1x1x128 .f32 :=
  rowOut (View.ld x3 (Rect.unit (s := S1x4x192x128) ![0, 0, 0, 0] S1x4x192x128.size inb_S1x4x192x128_S1x4x192x128_0_0_0_0))
    (View.ld x2 (Rect.unit (s := S4x16x4) ![b, 0, 0] S1x16x4.size (inbBox b hb)))
    (View.ld x0 (Rect.unit (s := S4x4x192x128) ![b, 0, 0, 0] S1x4x192x128.size (inbLoc b hb)))
    (View.ld x1 (Rect.unit (s := S4x2x192x128) ![b, 0, 0, 0] S1x2x192x128.size (inbSc b hb)))

/-- The four rows' stores, the last first. -/
abbrev pieces (p : (b : ℕ) → b < 4 → Vec F S1x1x128 .f32) : List (View.Piece (Elt F) S4x1x128 .f32) :=
  [⟨rOut 3 (by decide), p 3 (by decide)⟩, ⟨rOut 2 (by decide), p 2 (by decide)⟩, ⟨rOut 1 (by decide), p 1 (by decide)⟩, ⟨rOut 0 (by decide), p 0 (by decide)⟩]

/-- The four rows fill the block. -/
theorem pieces_cover (p : (b : ℕ) → b < 4 → Vec F S1x1x128 .f32) (y : S4x1x128.Idx) : ∃ pc ∈ pieces p, y ∈ pc.1.set :=
  View.cover_of_tiled (pieces p) S1x1x128.size (by rfl) y

/-- What the body leaves in a block of the result, from the four staged blocks. -/
def blockOut (x0 : Vec F S4x4x192x128 .f32) (x1 : Vec F S4x2x192x128 .f32) (x2 : Vec F S4x16x4 .f32) (x3 : Vec F S1x4x192x128 .f32) : Vec F S4x1x128 .f32 :=
  View.canon (pieces (rowFrom x0 x1 x2 x3))

/-- The body on whole staging buffers: it ends with the four inputs as they were and the result's block at `blockOut`. -/
theorem body_run (c : Dev nD) (i : grid0.Coords) (M0 : Memref sig .tc .vmem S4x4x192x128 .f32) (h0 : M0.IsWhole) (M1 : Memref sig .tc .vmem S4x2x192x128 .f32) (h1 : M1.IsWhole)
    (M2 : Memref sig .tc .vmem S4x16x4 .f32) (h2 : M2.IsWhole) (M3 : Memref sig .tc .vmem S1x4x192x128 .f32) (h3 : M3.IsWhole)
    (M4 : Memref sig .tc .vmem S4x1x128 .f32) (h4 : M4.IsWhole)
    (x0 : Vec F S4x4x192x128 .f32) (x1 : Vec F S4x2x192x128 .f32) (x2 : Vec F S4x16x4 .f32) (x3 : Vec F S1x4x192x128 .f32) (E : Set ℕ) (K : PUnit → sProp 𝕄) :
    iprop(owns (c : Thread nD τ) M0 fullShare x0 ∗ owns (c : Thread nD τ) M1 fullShare x1 ∗ owns (c : Thread nD τ) M2 fullShare x2
        ∗ owns (c : Thread nD τ) M3 fullShare x3 ∗ (∃ d, owns (c : Thread nD τ) M4 fullShare d)
        ∗ (iprop(owns (c : Thread nD τ) M0 fullShare x0 ∗ owns (c : Thread nD τ) M1 fullShare x1 ∗ owns (c : Thread nD τ) M2 fullShare x2
            ∗ owns (c : Thread nD τ) M3 fullShare x3 ∗ owns (c : Thread nD τ) M4 fullShare (blockOut x0 x1 x2 x3)) -∗ K ⟨⟩))
      ⊢ wp frame (wpE (defs₀ (F := F)) noVar c none) E (cc0__mbl_kernel i M0 h0 M1 h1 M2 h2 M3 h3 M4 h4) K := by
  rw [kernel_eq]
  unfold owns rowsProg rowProg
  simp only [← rowOut.eq_def]
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec!
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  iexists _; isplitr; swap; · iexact H4
  ipureintro
  exact View.read_writes_eq_canon M4.view M4.view.junk
    (pieces (rowFrom (M0.view.read (Elt F) f0) (M1.view.read (Elt F) f1) (M2.view.read (Elt F) f2) (M3.view.read (Elt F) f3))) (pieces_cover _)

/-! ## The pipeline's proof data and the body's obligation -/

variable (m : (ℓ : Loc nD τ sig) → Buf (Elt F) ℓ) (ρ : Dev nD → PrngReg)

/-- What the body leaves in the result's block at point `t`. -/
def blockAt (c : Dev nD) (t : Fin cfg0.N) : Vec F S4x1x128 .f32 := blockOut (iblk m c 0 t) (iblk m c 1 t) (iblk m c 2 t) (iblk m c 3 t)

/-- The arrays as the region finds them; after the body every input's buffer at its block and the result's at `blockAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => blockAt m c t
  Φ _ := Pipeline.ΦA spec0 c
  q _ := fullShare
  owed _ := 0

theorem dats_A (c : Dev nD) (w : Fin cfg0.W) : (dats m 0 c).A w = V m c (Pipeline.arrRef spec0 w) := rfl
theorem dats_after0 (c : Dev nD) (t : Fin cfg0.N) : (dats m 0 c).after 0 t = iblk m c 0 t := by dsimp only [dats]
theorem dats_after1 (c : Dev nD) (t : Fin cfg0.N) : (dats m 0 c).after 1 t = iblk m c 1 t := by dsimp only [dats]
theorem dats_after2 (c : Dev nD) (t : Fin cfg0.N) : (dats m 0 c).after 2 t = iblk m c 2 t := by dsimp only [dats]
theorem dats_after3 (c : Dev nD) (t : Fin cfg0.N) : (dats m 0 c).after 3 t = iblk m c 3 t := by dsimp only [dats]
theorem dats_after4 (c : Dev nD) (t : Fin cfg0.N) : (dats m 0 c).after 4 t = blockAt m c t := by dsimp only [dats]

/-- Every input's buffer holds its block when the body runs. -/
theorem dats_before0 (c : Dev nD) (t : Fin cfg0.N) (d) : (dats m 0 c).before 0 t d = iblk m c 0 t := before0_0_of m (dats m 0 c) (dats_A m c 0) (dats_after0 m c) t d
theorem dats_before1 (c : Dev nD) (t : Fin cfg0.N) (d) : (dats m 0 c).before 1 t d = iblk m c 1 t := before0_1_of m (dats m 0 c) (dats_A m c 1) (dats_after1 m c) t d
theorem dats_before2 (c : Dev nD) (t : Fin cfg0.N) (d) : (dats m 0 c).before 2 t d = iblk m c 2 t := before0_2_of m (dats m 0 c) (dats_A m c 2) (dats_after2 m c) t d
theorem dats_before3 (c : Dev nD) (t : Fin cfg0.N) (d) : (dats m 0 c).before 3 t d = iblk m c 3 t := before0_3_of m (dats m 0 c) (dats_A m c 3) (dats_after3 m c) t d

/-- The body's obligation at every point: `body_run` at the point's staging buffers. -/
theorem body_obligation (c : Dev nD) : BodyObligation (dats (F := F) m 0 c) (defs₀ (F := F)) noVar () Set.univ := fun t => by
  rw [bigSep_W0, bigSep_W0]
  sl_whnfR [defs₀, Defs.onTc]
  simp only [dats_before0, dats_before1, dats_before2, dats_before3]
  rw [show (dats m 0 c).Φ t.succ = (dats m 0 c).Φ t.castSucc from rfl,
    show (dats m 0 c).owesAt () t.succ = (dats m 0 c).owesAt () t.castSucc from rfl, dats_after0, dats_after1, dats_after2, dats_after3, dats_after4]
  unfold blockAt
  iintro ⟨HΦ, Ho, ⟨%d0, H0⟩, ⟨%d1, H1⟩, ⟨%d2, H2⟩, ⟨%d3, H3⟩, ⟨%d4, H4⟩⟩
  iapply (body_run c _ _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-! ## The run -/

set_option backward.isDefEq.respectTransparency.types false in
/-- From any memory with zero counters every fair run of the program ends, with every array of the pipeline and every
    other buffer at what the proof data and the host lines compute, and every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ noVar m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m noVar) (hA := fun _ _ => rfl) (hΦ := fun _ _ => rfl)

/-- The arguments end as they began and every counter at zero, whatever the numbers are. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_with_sems (frame_of m ρ (dats m) fun _ _ => rfl) (run_main m ρ)

end Cert.Proof

end
-- ==== Proof.Same.lean ====
/-
  The frame of the program at the bits: the two printed programs are one program, and the run of `Run.lean` holds for
  any numbers.
-/
module

public import proofs.«01_k».proof.Proof.Run
public import proofs.«01_k».proof.Proof.Gen.Kernel
public import Idealize.ShloMosaic.PureOps.BitExact

@[expose] public section

noncomputable section

namespace Cert.Proof

open Idealize.ShloMosaic Idealize.SL.Sem
open Idealize.ShloMosaic.TcCoe

variable {F : FTy → Type} [FloatOps F]

/-- The kernel's last part is one program in both. -/
theorem part60_same [hK : Cert.Kernel.Facts] [hI : Cert.KernelIdeal.Facts] : @Cert.Kernel.k0_part60 F _ hK = @Cert.KernelIdeal.k0_part60 F _ hI := rfl

/-- And so are the two whole programs. -/
theorem main_same [hK : Cert.Kernel.Facts] [hI : Cert.KernelIdeal.Facts] : @Cert.Kernel.main F _ hK = @Cert.KernelIdeal.main F _ hI := rfl

/-- And so are the kernels' bodies. -/
theorem body_same [hK : Cert.Kernel.Facts] [hI : Cert.KernelIdeal.Facts] : @Cert.Kernel.cc0__mbl_kernel F _ hK = @Cert.KernelIdeal.cc0__mbl_kernel F _ hI := rfl

/-- And the tables of their procedures. -/
theorem defs0_same [hK : Cert.Kernel.Facts] [hI : Cert.KernelIdeal.Facts] : @Cert.Kernel.defs₀ F _ hK = @Cert.KernelIdeal.defs₀ F _ hI := by
  refine congrArg (Defs.onTc (nD := Cert.KernelIdeal.nD) (τ := Cert.KernelIdeal.τ) (sig := Cert.KernelIdeal.sig) (Val := Elt F) (Λ := Cert.KernelIdeal.Λ₀)) ?_
  funext l a
  match l, a with
  | ⟨0, _⟩, (t, s) => rfl
  | ⟨n + 1, h⟩, _ => exact absurd h (Nat.not_lt.2 (Nat.le_add_left _ _))

/-- And the tables with the pipeline's procedures. -/
theorem defs_same [hK : Cert.Kernel.Facts] [hI : Cert.KernelIdeal.Facts] : @Cert.Kernel.defs F _ hK = @Cert.KernelIdeal.defs F _ hI := by
  unfold Cert.Kernel.defs Cert.KernelIdeal.defs
  rw [← defs0_same (hK := hK) (hI := hI)]
  rfl

set_option backward.isDefEq.respectTransparency.types false in
/-- The arguments end as they began and every counter at zero, for the program at the bits. -/
theorem frame_bits (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0) :=
  Eq.mp (congrArg (fun D => θ_run D (onTc (τ := Cert.Kernel.τ) (Cert.Kernel.main (F := Bits))) ⟨m, fun _ => 0, g⟩ _) defs_same.symm) (frame_run (F := Bits) m g)

end Cert.Proof

end
-- ==== Proof.Search.lean ====
/-
  The threshold search over real numbers: twelve quarterings of an interval, each keeping the quarter in which the count
  of losses above falls below `k`, end at the k-th largest loss rounded up to the grid; and the sum of the hard
  negatives the interval's end gives.
-/
module

public import Idealize.ShloMosaic.PureOps.Ideal.Laws

@[expose] public section

noncomputable section

namespace Cert.Proof.Search

variable {ι : Type} [Fintype ι]

/-- How many of the numbers lie above `t`. -/
def cnt (v : ι → ℝ) (t : ℝ) : ℕ := (Finset.univ.filter fun q => t < v q).card

theorem cnt_anti (v : ι → ℝ) {a b : ℝ} (h : a ≤ b) : cnt v b ≤ cnt v a :=
  Finset.card_le_card fun q hq => by
    simp only [Finset.mem_filter, Finset.mem_univ, true_and] at hq ⊢
    exact lt_of_le_of_lt h hq

/-- One trip of the search on real numbers. -/
def trip (v : ι → ℝ) (k : ℕ) (p : ℝ × ℝ) : ℝ × ℝ :=
  let m1 := p.1 + (p.2 - p.1) * (1 / 4)
  let m2 := p.1 + (p.2 - p.1) * (1 / 2)
  let m3 := p.1 + (p.2 - p.1) * (3 / 4)
  (if k ≤ cnt v m3 then m3 else if k ≤ cnt v m2 then m2 else if k ≤ cnt v m1 then m1 else p.1,
   if cnt v m1 < k then m1 else if cnt v m2 < k then m2 else if cnt v m3 < k then m3 else p.2)

/-- The interval is the `i`-th of width `d`; fewer than `k` numbers lie above its end and, unless it is the first, at
    least `k` above its start. -/
def Inv (v : ι → ℝ) (k : ℕ) (d : ℝ) (i : ℕ) (p : ℝ × ℝ) : Prop :=
  p.1 = i * d ∧ p.2 = (i + 1) * d ∧ (i = 0 ∨ k ≤ cnt v p.1) ∧ cnt v p.2 < k

/-- A trip leads from an interval of width `4 d` to one of width `d`. -/
theorem trip_inv (v : ι → ℝ) (k : ℕ) (d : ℝ) (hd : 0 < d) (i : ℕ) (p : ℝ × ℝ) (h : Inv v k (4 * d) i p) :
    ∃ i', Inv v k d i' (trip v k p) := by
  obtain ⟨h1, h2, h3, h4⟩ := h
  have e1 : p.1 + (p.2 - p.1) * (1 / 4) = ((4 * i + 1 : ℕ) : ℝ) * d := by rw [h1, h2]; push_cast; ring
  have e2 : p.1 + (p.2 - p.1) * (1 / 2) = ((4 * i + 2 : ℕ) : ℝ) * d := by rw [h1, h2]; push_cast; ring
  have e3 : p.1 + (p.2 - p.1) * (3 / 4) = ((4 * i + 3 : ℕ) : ℝ) * d := by rw [h1, h2]; push_cast; ring
  have e0 : p.1 = ((4 * i : ℕ) : ℝ) * d := by rw [h1]; push_cast; ring
  have e4 : p.2 = ((4 * i + 3 : ℕ) + 1 : ℝ) * d := by rw [h2]; push_cast; ring
  have c12 : cnt v (((4 * i + 2 : ℕ) : ℝ) * d) ≤ cnt v (((4 * i + 1 : ℕ) : ℝ) * d) :=
    cnt_anti v (mul_le_mul_of_nonneg_right (by push_cast; linarith) hd.le)
  have c23 : cnt v (((4 * i + 3 : ℕ) : ℝ) * d) ≤ cnt v (((4 * i + 2 : ℕ) : ℝ) * d) :=
    cnt_anti v (mul_le_mul_of_nonneg_right (by push_cast; linarith) hd.le)
  unfold trip
  simp only [e1, e2, e3]
  by_cases k3 : k ≤ cnt v (((4 * i + 3 : ℕ) : ℝ) * d)
  · refine ⟨4 * i + 3, ?_⟩
    rw [if_pos k3, if_neg (by omega), if_neg (by omega), if_neg (by omega)]
    exact ⟨rfl, e4, .inr k3, h4⟩
  by_cases k2 : k ≤ cnt v (((4 * i + 2 : ℕ) : ℝ) * d)
  · refine ⟨4 * i + 2, ?_⟩
    rw [if_neg k3, if_pos k2, if_neg (by omega), if_neg (by omega), if_pos (by omega)]
    exact ⟨rfl, by push_cast; ring, .inr k2, by simpa using (not_le.mp k3)⟩
  by_cases k1 : k ≤ cnt v (((4 * i + 1 : ℕ) : ℝ) * d)
  · refine ⟨4 * i + 1, ?_⟩
    rw [if_neg k3, if_neg k2, if_pos k1, if_neg (by omega), if_pos (by omega)]
    exact ⟨rfl, by push_cast; ring, .inr k1, by simpa using (not_le.mp k2)⟩
  · refine ⟨4 * i, ?_⟩
    rw [if_neg k3, if_neg k2, if_neg k1, if_pos (by omega)]
    refine ⟨e0, by push_cast; ring, ?_, by simpa using (not_le.mp k1)⟩
    rcases h3 with h3 | h3
    · exact .inl (by omega)
    · exact .inr h3

/-- `n` trips lead from the first interval of width `4 ^ n * d` to one of width `d`. -/
theorem trips_inv (v : ι → ℝ) (k : ℕ) (d : ℝ) (hd : 0 < d) (n : ℕ) (i : ℕ) (p : ℝ × ℝ) (h : Inv v k (4 ^ n * d) i p) :
    ∃ i', Inv v k d i' ((trip v k)^[n] p) := by
  induction n generalizing i p with
  | zero => exact ⟨i, by simpa using h⟩
  | succ n ih =>
    obtain ⟨i', h'⟩ := trip_inv v k (4 ^ n * d) (by positivity) i p (by rw [pow_succ] at h; convert h using 1; ring)
    exact ih i' _ h'

/-- `K` is the `k`-th largest number, as far as numbers from zero up can tell: at least `k` numbers lie above `t` exactly
    when `t` lies below `K`. -/
def IsKth (v : ι → ℝ) (k : ℕ) (K : ℝ) : Prop := ∀ t : ℝ, 0 ≤ t → (k ≤ cnt v t ↔ t < K)

/-- The grid point above the `k`-th largest number is the end of the interval found. -/
theorem ceil_eq (v : ι → ℝ) (k : ℕ) (d : ℝ) (hd : 0 < d) (i : ℕ) (p : ℝ × ℝ) (h : Inv v k d i p) (K : ℝ) (hK : IsKth v k K) :
    d * max (⌈K / d⌉ : ℝ) 1 = p.2 := by
  obtain ⟨h1, h2, h3, h4⟩ := h
  have hi : K ≤ (i + 1) * d := by
    rw [← h2]; by_contra hc
    have := (hK p.2 (by rw [h2]; positivity)).2 (not_le.mp hc)
    omega
  have hc : ⌈K / d⌉ ≤ (i + 1 : ℤ) := by
    rw [Int.ceil_le]; push_cast; rw [div_le_iff₀ hd]; exact hi
  have : max (⌈K / d⌉ : ℝ) 1 = (i : ℝ) + 1 := by
    rcases h3 with h3 | h3
    · subst h3
      have : (⌈K / d⌉ : ℝ) ≤ 1 := by exact_mod_cast hc
      simp [this]
    · have hlt : (i : ℝ) * d < K := by rw [← h1]; exact (hK p.1 (by rw [h1]; positivity)).1 h3
      have : (i : ℤ) < ⌈K / d⌉ := by rw [Int.lt_ceil]; push_cast; rw [lt_div_iff₀ hd]; exact hlt
      have he : ⌈K / d⌉ = (i + 1 : ℤ) := by omega
      rw [he]; push_cast
      exact max_eq_left (by have : (0 : ℝ) ≤ i := Nat.cast_nonneg i; linarith)
  rw [this, h2, mul_comm]

/-- The sum of the numbers above `t` and `k - count` times `t` is the sum of the excesses over `t` and `k` times `t`. -/
theorem hard_eq (v : ι → ℝ) (k : ℕ) (t : ℝ) (h : cnt v t < k) :
    (∑ q, if t < v q then v q else 0) + max ((k : ℝ) - cnt v t) 0 * t = (∑ q, max (v q - t) 0) + k * t := by
  have e : ∀ q, max (v q - t) 0 = (if t < v q then v q else 0) - (if t < v q then t else 0) := fun q => by
    by_cases hq : t < v q
    · rw [if_pos hq, if_pos hq, max_eq_left (by linarith)]
    · rw [if_neg hq, if_neg hq, max_eq_right (by linarith), sub_zero]
  have s : (∑ q, if t < v q then t else 0) = cnt v t * t := by
    rw [← Finset.sum_filter, Finset.sum_const, nsmul_eq_mul]; rfl
  have hk : ((cnt v t : ℕ) : ℝ) ≤ k := by exact_mod_cast h.le
  rw [Finset.sum_congr rfl fun q _ => e q, Finset.sum_sub_distrib, s, max_eq_left (by linarith)]
  ring

/-- In a family listed from the greatest down, the member at place `k - 1` is the `k`-th largest. -/
theorem isKth_of_sorted {P : ℕ} (v : Fin P → ℝ) (σ : Fin P → Fin P) (hσ : Function.Bijective σ) (hs : ∀ a b, a ≤ b → v (σ b) ≤ v (σ a))
    (k : ℕ) (hk : 1 ≤ k) (r : Fin P) (hr : (r : ℕ) + 1 = k) : IsKth v k (v (σ r)) := by
  intro t _
  have e : cnt v t = (Finset.univ.filter fun q => t < v (σ q)).card := by
    unfold cnt
    refine (Finset.card_bij (fun a _ => σ a) ?_ (fun a _ b _ h => hσ.1 h) ?_).symm
    · intro a ha; simpa using ha
    · intro b hb
      obtain ⟨a, rfl⟩ := hσ.2 b
      exact ⟨a, by simpa using hb, rfl⟩
  rw [e]
  constructor
  · intro h
    by_contra hc
    have hsub : (Finset.univ.filter fun q => t < v (σ q)) ⊆ Finset.univ.filter fun q : Fin P => q < r := by
      intro q hq
      simp only [Finset.mem_filter, Finset.mem_univ, true_and] at hq ⊢
      by_contra hqr
      exact hc (lt_of_lt_of_le hq (hs r q (not_lt.mp hqr)))
    have hcard : (Finset.univ.filter fun q : Fin P => q < r).card = r := by
      rw [show (Finset.univ.filter fun q : Fin P => q < r) = Finset.Iio r by ext; simp]; simp
    have := Finset.card_le_card hsub
    omega
  · intro h
    have hsub : (Finset.univ.filter fun q : Fin P => q ≤ r) ⊆ Finset.univ.filter fun q => t < v (σ q) := by
      intro q hq
      simp only [Finset.mem_filter, Finset.mem_univ, true_and] at hq ⊢
      exact lt_of_lt_of_le h (hs q r hq)
    have hcard : (Finset.univ.filter fun q : Fin P => q ≤ r).card = r + 1 := by
      rw [show (Finset.univ.filter fun q : Fin P => q ≤ r) = Finset.Iic r by ext; simp]; simp
    have := Finset.card_le_card hsub
    omega

/-- With more asked for than there are, zero serves. -/
theorem isKth_zero {P : ℕ} (v : Fin P → ℝ) (k : ℕ) (hk : P < k) : IsKth v k 0 := by
  intro t ht
  have : cnt v t ≤ P := (Finset.card_le_univ _).trans (by simp)
  exact ⟨fun h => by omega, fun h => by linarith⟩

end Cert.Proof.Search

end
-- ==== Proof.Spec.lean ====
/-
  The loss of one batch row in plain mathematics over the extended reals: the overlap of a prior with a box, the
  matching, the localisation error, the cross entropy. Both programs are read as these.
-/
module

public import proofs.«01_k».proof.Proof.Search

@[expose] public section

noncomputable section

namespace Cert.Proof.Spec

open Idealize.ShloMosaic

/-! ## Constants and operations on real numbers -/

theorem c_zero : Ideal.ofBits .f32 0x00000000#32 = 0 := Ideal.ofBits_zero_f32
theorem c_one : Ideal.ofBits .f32 0x3F800000#32 = 1 := by simp [Ideal.ofBits, Ideal.ieee]; norm_num; rw [← EReal.coe_mul, ← EReal.coe_one, EReal.coe_eq_coe_iff]; norm_num
theorem c_negOne : Ideal.ofBits .f32 0xBF800000#32 = ((-1 : ℝ) : EReal) := by simp [Ideal.ofBits, Ideal.ieee]; norm_num; rw [← EReal.coe_mul, ← EReal.coe_one, EReal.coe_eq_coe_iff]; norm_num
theorem c_two : Ideal.ofBits .f32 0x40000000#32 = ((2 : ℝ) : EReal) := by simp [Ideal.ofBits, Ideal.ieee]; norm_num; rw [← EReal.coe_mul, EReal.coe_eq_coe_iff]; norm_num
theorem c_three : Ideal.ofBits .f32 0x40400000#32 = ((3 : ℝ) : EReal) := by simp [Ideal.ofBits, Ideal.ieee]; norm_num; rw [← EReal.coe_mul, EReal.coe_eq_coe_iff]; norm_num
theorem c_quarter : Ideal.ofBits .f32 0x3E800000#32 = ((1 / 4 : ℝ) : EReal) := by simp [Ideal.ofBits, Ideal.ieee]; norm_num; rw [← EReal.coe_mul, EReal.coe_eq_coe_iff]; norm_num
theorem c_half : Ideal.ofBits .f32 0x3F000000#32 = ((1 / 2 : ℝ) : EReal) := by simp [Ideal.ofBits, Ideal.ieee]; norm_num; rw [← EReal.coe_mul, EReal.coe_eq_coe_iff]; norm_num
theorem c_threeQ : Ideal.ofBits .f32 0x3F400000#32 = ((3 / 4 : ℝ) : EReal) := by simp [Ideal.ofBits, Ideal.ieee]; norm_num; rw [← EReal.coe_mul, EReal.coe_eq_coe_iff]; norm_num
theorem c_grid : Ideal.ofBits .f32 0x4B800000#32 = ((4 ^ 12 : ℝ) : EReal) := by simp [Ideal.ofBits, Ideal.ieee]; norm_num; rw [← EReal.coe_mul, ← EReal.coe_pow, EReal.coe_eq_coe_iff]; norm_num
theorem c_bot : Ideal.ofBits .f32 0xFF800000#32 = ⊥ := by simp [Ideal.ofBits, Ideal.ieee]
theorem c_top : Ideal.ofBits .f32 0x7F800000#32 = ⊤ := by simp [Ideal.ofBits, Ideal.ieee]

/-- The threshold of a positive. -/
def thr : EReal := Ideal.ofBits .f32 0x3E4CCCCD#32
theorem thr_eq : thr = ((13421773 / 67108864 : ℝ) : EReal) := by unfold thr; simp [Ideal.ofBits, Ideal.ieee]; norm_num; rw [← EReal.coe_mul, EReal.coe_eq_coe_iff]; norm_num

theorem div_coe (x y : ℝ) (h : y ≠ 0) : Ideal.div (x : EReal) (y : EReal) = ((x / y : ℝ) : EReal) := by
  unfold Ideal.div
  rw [if_neg (by exact_mod_cast h), ← EReal.coe_inv, ← EReal.coe_mul, div_eq_mul_inv]

theorem max_coe (x y : ℝ) : max (x : EReal) (y : EReal) = ((max x y : ℝ) : EReal) := (EReal.coe_strictMono.monotone.map_max).symm
theorem min_coe (x y : ℝ) : min (x : EReal) (y : EReal) = ((min x y : ℝ) : EReal) := (EReal.coe_strictMono.monotone.map_min).symm

theorem sum_coe {ι : Type} (s : Finset ι) (f : ι → ℝ) : (∑ q ∈ s, ((f q : ℝ) : EReal)) = ((∑ q ∈ s, f q : ℝ) : EReal) := by
  classical
  induction s using Finset.induction_on with
  | empty => simp
  | insert a s ha ih => rw [Finset.sum_insert ha, Finset.sum_insert ha, ih, EReal.coe_add]

/-- A finite extended real. -/
def Fin' (x : EReal) : Prop := ∃ r : ℝ, x = r

theorem fin_of_abs {x : EReal} (h : max x (-x) < ⊤) : Fin' x := by
  induction x using EReal.rec with
  | bot => simp at h
  | top => simp at h
  | coe r => exact ⟨r, rfl⟩

/-! ## The overlap -/

/-- Width or height of a range over another: not below zero. -/
def side (a0 a1 c w : EReal) : EReal := max 0 (min a1 (c + Ideal.div w (2 : ℝ)) - max a0 (c - Ideal.div w (2 : ℝ)))

/-- The overlap of a prior (centre and size) and a box (corners): intersection over union. -/
def ovOf (p b : Fin 4 → EReal) : EReal :=
  Ideal.div (side (b 0) (b 2) (p 0) (p 2) * side (b 1) (b 3) (p 1) (p 3))
    ((b 2 - b 0) * (b 3 - b 1)
      + ((p 0 + Ideal.div (p 2) (2 : ℝ)) - (p 0 - Ideal.div (p 2) (2 : ℝ))) * ((p 1 + Ideal.div (p 3) (2 : ℝ)) - (p 1 - Ideal.div (p 3) (2 : ℝ)))
      - side (b 0) (b 2) (p 0) (p 2) * side (b 1) (b 3) (p 1) (p 3))

/-- A box of finite corners and of positive width and height. -/
def GoodBox (b : Fin 4 → EReal) : Prop := (∀ c, Fin' (b c)) ∧ b 0 < b 2 ∧ b 1 < b 3

/-- A prior of finite centre and size, the size positive. -/
def GoodPrior (p : Fin 4 → EReal) : Prop := (∀ c, Fin' (p c)) ∧ 0 < p 2 ∧ 0 < p 3

theorem side_coe (a0 a1 c w : ℝ) : side a0 a1 c w = ((max 0 (min a1 (c + w / 2) - max a0 (c - w / 2)) : ℝ) : EReal) := by
  unfold side
  rw [div_coe _ _ (by norm_num), ← EReal.coe_add, ← EReal.coe_sub, min_coe, max_coe, ← EReal.coe_sub, ← EReal.coe_zero, max_coe]

/-- The overlap of a good prior and a good box lies between zero and one. -/
theorem ov_bounds {p b : Fin 4 → EReal} (hp : GoodPrior p) (hb : GoodBox b) : 0 ≤ ovOf p b ∧ ovOf p b ≤ 1 := by
  obtain ⟨hpf, hp2, hp3⟩ := hp
  obtain ⟨hbf, hb0, hb1⟩ := hb
  choose p' hp' using hpf
  choose b' hb' using hbf
  simp only [hp', hb'] at hp2 hp3 hb0 hb1
  have hp2 : 0 < p' 2 := by exact_mod_cast hp2
  have hp3 : 0 < p' 3 := by exact_mod_cast hp3
  have hb0 : b' 0 < b' 2 := by exact_mod_cast hb0
  have hb1 : b' 1 < b' 3 := by exact_mod_cast hb1
  unfold ovOf
  simp only [hp', hb', side_coe]
  set w := max 0 (min (b' 2) (p' 0 + p' 2 / 2) - max (b' 0) (p' 0 - p' 2 / 2)) with hw
  set h := max 0 (min (b' 3) (p' 1 + p' 3 / 2) - max (b' 1) (p' 1 - p' 3 / 2)) with hh
  have w0 : 0 ≤ w := le_max_left _ _
  have h0 : 0 ≤ h := le_max_left _ _
  have wb : w ≤ b' 2 - b' 0 := max_le (by linarith) (by linarith [min_le_left (b' 2) (p' 0 + p' 2 / 2), le_max_left (b' 0) (p' 0 - p' 2 / 2)])
  have hb : h ≤ b' 3 - b' 1 := max_le (by linarith) (by linarith [min_le_left (b' 3) (p' 1 + p' 3 / 2), le_max_left (b' 1) (p' 1 - p' 3 / 2)])
  have wp : w ≤ p' 2 := max_le hp2.le (by linarith [min_le_right (b' 2) (p' 0 + p' 2 / 2), le_max_right (b' 0) (p' 0 - p' 2 / 2)])
  have hp : h ≤ p' 3 := max_le hp3.le (by linarith [min_le_right (b' 3) (p' 1 + p' 3 / 2), le_max_right (b' 1) (p' 1 - p' 3 / 2)])
  have i0 : 0 ≤ w * h := mul_nonneg w0 h0
  have i1 : w * h ≤ (b' 2 - b' 0) * (b' 3 - b' 1) := mul_le_mul wb hb h0 (by linarith)
  have i2 : w * h ≤ p' 2 * p' 3 := mul_le_mul wp hp h0 hp2.le
  have ap : 0 < (b' 2 - b' 0) * (b' 3 - b' 1) := mul_pos (by linarith) (by linarith)
  have aq : 0 < p' 2 * p' 3 := mul_pos hp2 hp3
  rw [div_coe _ _ (by norm_num), div_coe _ _ (by norm_num)]
  simp only [← EReal.coe_add, ← EReal.coe_sub, ← EReal.coe_mul]
  have u : (b' 2 - b' 0) * (b' 3 - b' 1) + (p' 0 + p' 2 / 2 - (p' 0 - p' 2 / 2)) * (p' 1 + p' 3 / 2 - (p' 1 - p' 3 / 2)) - w * h
      = (b' 2 - b' 0) * (b' 3 - b' 1) + p' 2 * p' 3 - w * h := by ring
  rw [u, div_coe _ _ (by nlinarith)]
  constructor
  · exact_mod_cast div_nonneg i0 (by nlinarith)
  · have : w * h / ((b' 2 - b' 0) * (b' 3 - b' 1) + p' 2 * p' 3 - w * h) ≤ 1 := by
      rw [div_le_one (by nlinarith)]; linarith
    exact_mod_cast this

/-- A place without a prior, all zeros, has overlap zero with a good box. -/
theorem ov_pad {b : Fin 4 → EReal} (hb : GoodBox b) : ovOf (fun _ => 0) b = 0 := by
  obtain ⟨hbf, hb0, hb1⟩ := hb
  choose b' hb' using hbf
  simp only [hb'] at hb0 hb1
  have hb0 : b' 0 < b' 2 := by exact_mod_cast hb0
  have hb1 : b' 1 < b' 3 := by exact_mod_cast hb1
  unfold ovOf
  simp only [hb', ← EReal.coe_zero, side_coe, zero_div, add_zero, sub_zero]
  rw [div_coe _ _ (by norm_num)]
  simp only [← EReal.coe_add, ← EReal.coe_sub, ← EReal.coe_mul]
  have w : max 0 (min (b' 2) 0 - max (b' 0) 0) = 0 := max_eq_left (by linarith [min_le_right (b' 2) 0, le_max_right (b' 0) 0])
  rw [w, div_coe _ _ (by have := mul_pos (sub_pos.2 hb0) (sub_pos.2 hb1); norm_num; constructor <;> linarith)]
  simp

/-! ## The best prior and the matching -/

/-- `p` is the first place at which `f` is greatest. -/
def IsFirstMax {P : ℕ} (f : Fin P → EReal) (p : Fin P) : Prop := (∀ q, f q ≤ f p) ∧ ∀ q, q < p → f q < f p

theorem IsFirstMax.unique {P : ℕ} {f : Fin P → EReal} {p q : Fin P} (hp : IsFirstMax f p) (hq : IsFirstMax f q) : p = q := by
  rcases lt_trichotomy p q with h | h | h
  · exact absurd (hq.2 p h) (not_lt.2 (hp.1 q))
  · exact h
  · exact absurd (hp.2 q h) (not_lt.2 (hq.1 p))

theorem exists_firstMax {P : ℕ} [NeZero P] (f : Fin P → EReal) : ∃ p, IsFirstMax f p := by
  obtain ⟨m, -, hm⟩ := Finset.exists_max_image (Finset.univ : Finset (Fin P)) f ⟨0, Finset.mem_univ _⟩
  obtain ⟨p, hp, hmin⟩ := Finset.exists_min_image (Finset.univ.filter fun q => f q = f m) id ⟨m, by simp⟩
  simp only [Finset.mem_filter, Finset.mem_univ, true_and, id] at hp hmin
  refine ⟨p, fun q => by rw [hp]; exact hm q (Finset.mem_univ _), fun q hq => ?_⟩
  rw [hp]
  refine lt_of_le_of_ne (hm q (Finset.mem_univ _)) fun h => ?_
  exact absurd (hmin q h) (not_le.2 hq)

/-- The first place at which `f` is greatest. -/
def firstMax {P : ℕ} [NeZero P] (f : Fin P → EReal) : Fin P := Classical.choose (exists_firstMax f)
theorem firstMax_spec {P : ℕ} [NeZero P] (f : Fin P → EReal) : IsFirstMax f (firstMax f) := Classical.choose_spec (exists_firstMax f)
theorem firstMax_eq {P : ℕ} [NeZero P] {f : Fin P → EReal} {p : Fin P} (h : IsFirstMax f p) : firstMax f = p := (firstMax_spec f).unique h

/-- The object a place is matched to: the last of the objects whose best prior it is, else the first of greatest overlap. -/
def IsMatch (o : Fin 16 → EReal) (t : Fin 16 → Prop) (w : Fin 16) : Prop :=
  (t w ∧ ∀ j, w < j → ¬ t j) ∨ ((∀ j, ¬ t j) ∧ IsFirstMax o w)

theorem IsMatch.unique {o : Fin 16 → EReal} {t : Fin 16 → Prop} {w w' : Fin 16} (h : IsMatch o t w) (h' : IsMatch o t w') : w = w' := by
  rcases h with ⟨a, b⟩ | ⟨a, b⟩ <;> rcases h' with ⟨a', b'⟩ | ⟨a', b'⟩
  · rcases lt_trichotomy w w' with hh | hh | hh
    · exact absurd a' (b _ hh)
    · exact hh
    · exact absurd a (b' _ hh)
  · exact absurd a (a' _)
  · exact absurd a' (a _)
  · exact b.unique b'

/-- The object a place is matched to. -/
def matchOf (o : Fin 16 → EReal) (t : Fin 16 → Prop) : Fin 16 := Classical.epsilon (IsMatch o t)
theorem matchOf_eq {o : Fin 16 → EReal} {t : Fin 16 → Prop} {w : Fin 16} (h : IsMatch o t w) : matchOf o t = w :=
  IsMatch.unique (Classical.epsilon_spec ⟨w, h⟩) h

/-- A place is positive when some object's best prior it is or its greatest overlap reaches the threshold. -/
def posOf (o : Fin 16 → EReal) (t : Fin 16 → Prop) : Prop := (∃ j, t j) ∨ thr ≤ o (matchOf o t)

/-- What one pass over the first `n` objects has found, of overlaps `o` and best-prior marks `t`: the object `w`, and `m`
    its value, `2 + w` if the place is its best prior and its overlap otherwise. -/
def Found (o : Fin 16 → EReal) (t : Fin 16 → Prop) (n : ℕ) (m : EReal) (w : Fin 16) : Prop :=
  w.val < n ∧ ((t w ∧ m = ((2 + w.val : ℝ) : EReal) ∧ ∀ j : Fin 16, w < j → j.val < n → ¬ t j)
    ∨ ((∀ j : Fin 16, j.val < n → ¬ t j) ∧ m = o w ∧ (∀ j : Fin 16, j.val < n → o j ≤ o w) ∧ ∀ j, j < w → o j < o w))

/-- The value of object `j`. -/
def valOf (o : Fin 16 → EReal) (t : Fin 16 → Prop) [DecidablePred t] (j : Fin 16) : EReal := if t j then ((2 + j.val : ℝ) : EReal) else o j

/-- The first object is always found. -/
theorem found_first (o : Fin 16 → EReal) (t : Fin 16 → Prop) [DecidablePred t] (ho : ∀ j, 0 ≤ o j ∧ o j ≤ 1) :
    ((-1 : ℝ) : EReal) < valOf o t 0 ∧ Found o t 1 (valOf o t 0) 0 := by
  have hlt : ((-1 : ℝ) : EReal) < 0 := by exact_mod_cast (by norm_num : (-1 : ℝ) < 0)
  by_cases h : t 0
  · have e : valOf o t 0 = ((2 + (0 : Fin 16).val : ℝ) : EReal) := if_pos h
    refine ⟨?_, Nat.one_pos, .inl ⟨h, e, fun j hj hj' => ?_⟩⟩
    · rw [e]; exact_mod_cast (by norm_num : (-1 : ℝ) < 2 + 0)
    · exact absurd hj (by simp only [Fin.lt_def]; simp; omega)
  · have e : valOf o t 0 = o 0 := if_neg h
    have z : ∀ j : Fin 16, j.val < 1 → j = 0 := fun j hj => Fin.ext (by simp; omega)
    refine ⟨by rw [e]; exact lt_of_lt_of_le hlt (ho 0).1, Nat.one_pos, .inr ⟨fun j hj => z j hj ▸ h, e, fun j hj => by rw [z j hj], fun j hj => ?_⟩⟩
    exact absurd hj (by simp)

/-- The next object is found when its value is greater, else the one found before stays. -/
theorem found_next (o : Fin 16 → EReal) (t : Fin 16 → Prop) [DecidablePred t] (ho : ∀ j, 0 ≤ o j ∧ o j ≤ 1) (n : ℕ) (hn : n < 16)
    (m : EReal) (w : Fin 16) (h : Found o t n m w) :
    (m < valOf o t ⟨n, hn⟩ → Found o t (n + 1) (valOf o t ⟨n, hn⟩) ⟨n, hn⟩) ∧ (¬ m < valOf o t ⟨n, hn⟩ → Found o t (n + 1) m w) := by
  obtain ⟨hw, h⟩ := h
  have last : ∀ j : Fin 16, j.val < n + 1 → j.val < n ∨ j = ⟨n, hn⟩ := fun j hj => by
    rcases Nat.lt_succ_iff_lt_or_eq.1 hj with h | h
    · exact .inl h
    · exact .inr (Fin.ext h)
  by_cases ht : t ⟨n, hn⟩
  · have e : valOf o t ⟨n, hn⟩ = ((2 + n : ℝ) : EReal) := if_pos ht
    have hm : m < valOf o t ⟨n, hn⟩ := by
      rw [e]
      rcases h with ⟨_, hm, _⟩ | ⟨_, hm, _⟩
      · rw [hm]; exact_mod_cast (by have : (w.val : ℝ) < n := by exact_mod_cast hw
                                    linarith : (2 + w.val : ℝ) < 2 + n)
      · rw [hm]
        refine lt_of_le_of_lt (ho w).2 ?_
        exact_mod_cast (by have : (0 : ℝ) ≤ n := Nat.cast_nonneg n
                           linarith : (1 : ℝ) < 2 + n)
    refine ⟨fun _ => ⟨Nat.lt_succ_self n, .inl ⟨ht, e, fun j hj hj' => ?_⟩⟩, fun hc => absurd hm hc⟩
    exact absurd hj (by simp only [Fin.lt_def]; omega)
  · have e : valOf o t ⟨n, hn⟩ = o ⟨n, hn⟩ := if_neg ht
    rw [e]
    rcases h with ⟨h1, hm, h2⟩ | ⟨h1, hm, h2, h3⟩
    · have hno : ¬ m < o ⟨n, hn⟩ := by
        rw [hm]
        refine not_lt.2 ((ho _).2.trans ?_)
        exact_mod_cast (by have : (0 : ℝ) ≤ w.val := Nat.cast_nonneg _
                           linarith : (1 : ℝ) ≤ 2 + w.val)
      refine ⟨fun hc => absurd hc hno, fun _ => ⟨by omega, .inl ⟨h1, hm, fun j hj hj' => ?_⟩⟩⟩
      rcases last j hj' with h | h
      · exact h2 j hj h
      · exact h ▸ ht
    · refine ⟨fun hc => ⟨Nat.lt_succ_self n, .inr ⟨fun j hj => ?_, rfl, fun j hj => ?_, fun j hj => ?_⟩⟩,
        fun hc => ⟨by omega, .inr ⟨fun j hj => ?_, hm, fun j hj => ?_, h3⟩⟩⟩
      · rcases last j hj with h | h
        · exact h1 j h
        · exact h ▸ ht
      · rcases last j hj with h | h
        · exact (h2 j h).trans (hm ▸ hc).le
        · exact h ▸ le_rfl
      · exact lt_of_le_of_lt (h2 j hj) (hm ▸ hc)
      · rcases last j hj with h | h
        · exact h1 j h
        · exact h ▸ ht
      · rcases last j hj with h | h
        · exact h2 j h
        · rw [h]; exact hm ▸ not_lt.1 hc

/-- After all sixteen, the object found is the match. -/
theorem Found.isMatch {o : Fin 16 → EReal} {t : Fin 16 → Prop} {m : EReal} {w : Fin 16} (h : Found o t 16 m w) : IsMatch o t w := by
  rcases h.2 with ⟨a, _, b⟩ | ⟨a, _, b, c⟩
  · exact .inl ⟨a, fun j hj => b j hj j.isLt⟩
  · exact .inr ⟨fun j => a j j.isLt, fun j => b j j.isLt, c⟩

/-- And its value is not below the threshold exactly at the positive places. -/
theorem Found.pos_iff {o : Fin 16 → EReal} {t : Fin 16 → Prop} {m : EReal} {w : Fin 16} (h : Found o t 16 m w) : ¬ m < thr ↔ posOf o t := by
  have hw := matchOf_eq h.isMatch
  unfold posOf
  rw [hw, not_lt]
  rcases h.2 with ⟨a, hm, b⟩ | ⟨a, hm, b, c⟩
  · refine ⟨fun _ => .inl ⟨w, a⟩, fun _ => ?_⟩
    rw [hm, thr_eq]
    exact_mod_cast (by have : (0 : ℝ) ≤ w.val := Nat.cast_nonneg _
                       norm_num; linarith : (13421773 / 67108864 : ℝ) ≤ 2 + w.val)
  · rw [hm]
    exact ⟨fun h => .inr h, fun h => h.resolve_left fun ⟨j, hj⟩ => a j j.isLt hj⟩

end Cert.Proof.Spec

end
-- ==== Proof.Words.lean ====
/-
  Small facts both programs are read with: a select on a decided bit, the least and the greatest of a finite set of
  words, the greatest of a finite set of numbers.
-/
module

public import proofs.«01_k».proof.Proof.Spec
public import Idealize.ShloMosaic.Lib.Pointwise

@[expose] public section

noncomputable section

namespace Cert.Proof.Spec

open Idealize.ShloMosaic
theorem one_or_zero (c : BitVec 1) : c ≠ 1#1 → c = 0#1 := by revert c; decide
theorem ofBool_one (b : Bool) : BitVec.ofBool b = 1#1 ↔ b = true := by cases b <;> decide
theorem xori_one (c : BitVec 1) : IntOp.xori c 1#1 = 1#1 ↔ ¬ c = 1#1 := by revert c; decide
theorem one_xori (c : BitVec 1) : IntOp.xori 1#1 c = 1#1 ↔ ¬ c = 1#1 := by revert c; decide
theorem andi_one (c d : BitVec 1) : IntOp.andi c d = 1#1 ↔ c = 1#1 ∧ d = 1#1 := by revert c d; decide

open scoped Classical

/-- A select on a bit that says `p` is the choice by `p`. -/
theorem sel_bit {α : Type} {c : BitVec 1} {p : Prop} [Decidable p] (h : c = 1#1 ↔ p) (a b : α) : Scalar.select c a b = if p then a else b := by
  by_cases hp : p
  · rw [if_pos hp, h.2 hp]; rfl
  · rw [if_neg hp, one_or_zero c fun e => hp (h.1 e)]; rfl

theorem bit_cmpi_eq {w : ℕ} (x y : BitVec w) : IntOp.cmpi .eq x y = 1#1 ↔ x = y := by
  show BitVec.ofBool _ = 1#1 ↔ _
  rw [ofBool_one]; simp

theorem bit_cmpi_slt {w : ℕ} (x y : BitVec w) : IntOp.cmpi .slt x y = 1#1 ↔ x.toInt < y.toInt := by
  show BitVec.ofBool (decide _) = 1#1 ↔ _
  rw [ofBool_one, decide_eq_true_iff]

theorem bit_cmpi_sge {w : ℕ} (x y : BitVec w) : IntOp.cmpi .sge x y = 1#1 ↔ y.toInt ≤ x.toInt := by
  show BitVec.ofBool (decide _) = 1#1 ↔ _
  rw [ofBool_one, decide_eq_true_iff]

theorem bit_not {c : BitVec 1} {p : Prop} (h : c = 1#1 ↔ p) : IntOp.xori c 1#1 = 1#1 ↔ ¬ p := by rw [← h, xori_one]
theorem bit_noti {c : BitVec 1} {p : Prop} (h : c = 1#1 ↔ p) : IntOp.xori 1#1 c = 1#1 ↔ ¬ p := by rw [← h, one_xori]
theorem bit_and {c d : BitVec 1} {p q : Prop} (h : c = 1#1 ↔ p) (h' : d = 1#1 ↔ q) : IntOp.andi c d = 1#1 ↔ p ∧ q := by
  rw [← h, ← h', andi_one]

theorem bit_oeq (x y : EReal) : Ideal.cmp .oeq x y = 1#1 ↔ x = y := by
  show BitVec.ofBool (decide _) = 1#1 ↔ _
  rw [ofBool_one, decide_eq_true_iff]
theorem bit_ogt (x y : EReal) : Ideal.cmp .ogt x y = 1#1 ↔ y < x := by
  show BitVec.ofBool (decide _) = 1#1 ↔ _
  rw [ofBool_one, decide_eq_true_iff]
theorem bit_oge (x y : EReal) : Ideal.cmp .oge x y = 1#1 ↔ y ≤ x := by
  show BitVec.ofBool (decide _) = 1#1 ↔ _
  rw [ofBool_one, decide_eq_true_iff]
theorem bit_olt (x y : EReal) : Ideal.cmp .olt x y = 1#1 ↔ x < y := by
  show BitVec.ofBool (decide _) = 1#1 ↔ _
  rw [ofBool_one, decide_eq_true_iff]

/-- The least of a finite set of words, from a start that none of them exceeds. -/
theorem fold_minsi {ι : Type} (s : Finset ι) (f : ι → BitVec 32) (b : BitVec 32) :
    (s.fold IntOp.minsi b f).toInt ≤ b.toInt ∧ (∀ i ∈ s, (s.fold IntOp.minsi b f).toInt ≤ (f i).toInt)
      ∧ (s.fold IntOp.minsi b f = b ∨ ∃ i ∈ s, s.fold IntOp.minsi b f = f i) := by
  induction s using Finset.induction_on with
  | empty => simp
  | insert a s ha ih =>
    rw [Finset.fold_insert ha]
    obtain ⟨h1, h2, h3⟩ := ih
    by_cases h : (f a).slt (s.fold IntOp.minsi b f)
    · have e : IntOp.minsi (f a) (s.fold IntOp.minsi b f) = f a := if_pos h
      have hl : (f a).toInt < (s.fold IntOp.minsi b f).toInt := by simpa [BitVec.slt] using h
      rw [e]
      refine ⟨by omega, fun i hi => ?_, .inr ⟨a, by simp, rfl⟩⟩
      rcases Finset.mem_insert.1 hi with rfl | hi
      · exact le_rfl
      · have := h2 i hi; omega
    · have e : IntOp.minsi (f a) (s.fold IntOp.minsi b f) = s.fold IntOp.minsi b f := if_neg h
      have hl : ¬ (f a).toInt < (s.fold IntOp.minsi b f).toInt := by simpa [BitVec.slt] using h
      rw [e]
      refine ⟨h1, fun i hi => ?_, h3.imp_right fun ⟨i, hi, he⟩ => ⟨i, by simp [hi], he⟩⟩
      rcases Finset.mem_insert.1 hi with rfl | hi
      · omega
      · exact h2 i hi

/-- The greatest of a finite set of words, from a start that exceeds none of them. -/
theorem fold_maxsi {ι : Type} (s : Finset ι) (f : ι → BitVec 32) (b : BitVec 32) :
    b.toInt ≤ (s.fold IntOp.maxsi b f).toInt ∧ (∀ i ∈ s, (f i).toInt ≤ (s.fold IntOp.maxsi b f).toInt)
      ∧ (s.fold IntOp.maxsi b f = b ∨ ∃ i ∈ s, s.fold IntOp.maxsi b f = f i) := by
  induction s using Finset.induction_on with
  | empty => simp
  | insert a s ha ih =>
    rw [Finset.fold_insert ha]
    obtain ⟨h1, h2, h3⟩ := ih
    by_cases h : (s.fold IntOp.maxsi b f).slt (f a)
    · have e : IntOp.maxsi (f a) (s.fold IntOp.maxsi b f) = f a := if_pos h
      have hl : (s.fold IntOp.maxsi b f).toInt < (f a).toInt := by simpa [BitVec.slt] using h
      rw [e]
      refine ⟨by omega, fun i hi => ?_, .inr ⟨a, by simp, rfl⟩⟩
      rcases Finset.mem_insert.1 hi with rfl | hi
      · exact le_rfl
      · have := h2 i hi; omega
    · have e : IntOp.maxsi (f a) (s.fold IntOp.maxsi b f) = s.fold IntOp.maxsi b f := if_neg h
      have hl : ¬ (s.fold IntOp.maxsi b f).toInt < (f a).toInt := by simpa [BitVec.slt] using h
      rw [e]
      refine ⟨h1, fun i hi => ?_, h3.imp_right fun ⟨i, hi, he⟩ => ⟨i, by simp [hi], he⟩⟩
      rcases Finset.mem_insert.1 hi with rfl | hi
      · omega
      · exact h2 i hi

/-- A number below 2^31 as a word, read back. -/
theorem toInt_ofNat {n : ℕ} (h : n < 2147483648) : (BitVec.ofNat 32 n).toInt = n := by
  rw [BitVec.toInt_eq_toNat_cond, BitVec.toNat_ofNat, Nat.mod_eq_of_lt (by omega), if_pos (by omega)]

theorem toInt_inj {x y : BitVec 32} (h : x.toInt = y.toInt) : x = y := BitVec.eq_of_toInt_eq h

theorem ofNat_inj {a b : ℕ} (ha : a < 2147483648) (hb : b < 2147483648) : BitVec.ofNat 32 a = BitVec.ofNat 32 b ↔ a = b :=
  ⟨fun h => by have := congrArg BitVec.toInt h; rw [toInt_ofNat ha, toInt_ofNat hb] at this; omega, fun h => by rw [h]⟩

/-- The greatest of a finite set of numbers, met from below everything, is at one of them. -/
theorem fold_max {ι : Type} (s : Finset ι) (f : ι → EReal) (i : ι) (hi : i ∈ s) (hm : ∀ q ∈ s, f q ≤ f i) :
    s.fold max ⊥ f = f i := by
  refine le_antisymm ?_ ?_
  · rw [Finset.fold_max_le]; exact ⟨bot_le, hm⟩
  · rw [Finset.le_fold_max]; exact .inr ⟨i, hi, le_rfl⟩

theorem fold_max_sup {ι : Type} (s : Finset ι) (f : ι → EReal) : s.fold max ⊥ f = s.sup f := rfl

end Cert.Proof.Spec

end
-- ==== Proof.Loss.lean ====
/-
  The losses of one batch row, over the extended reals, and what the threshold search over the padded plane finds.
-/
module

public import proofs.«01_k».proof.Proof.Spec

@[expose] public section

noncomputable section

namespace Cert.Proof.Spec

open Idealize.ShloMosaic
open scoped Classical

/-- The constants ten, five and four as the programs write them. -/
def c10 : EReal := Ideal.ofBits .f32 0x41200000#32
def c5 : EReal := Ideal.ofBits .f32 0x40A00000#32
def c4 : EReal := Ideal.ofBits .f32 0x40800000#32

/-- The encoding of a box against a prior. -/
def trueLoc (p b : Fin 4 → EReal) : Fin 4 → EReal
  | 0 => Ideal.div (Ideal.div (b 0 + b 2) (2 : ℝ) - p 0) (Ideal.div (p 2) c10)
  | 1 => Ideal.div (Ideal.div (b 1 + b 3) (2 : ℝ) - p 1) (Ideal.div (p 3) c10)
  | 2 => Ideal.log (Ideal.div (b 2 - b 0) (p 2)) * c5
  | 3 => Ideal.log (Ideal.div (b 3 - b 1) (p 3)) * c5

/-- The distance of two numbers. -/
def dist1 (x y : EReal) : EReal := max (x - y) (-(x - y))

/-- The localisation error of a prior. -/
def l1Of (p b l : Fin 4 → EReal) : EReal := ∑ c, dist1 (l c) (trueLoc p b c)

/-- The logarithm of the summed exponentials, the greater score taken out. -/
def lse (s : Fin 2 → EReal) : EReal :=
  max (s 0) (s 1) + Ideal.log (0 + Ideal.exp (s 0 - max (s 0) (s 1)) + Ideal.exp (s 1 - max (s 0) (s 1)))

/-- The cross entropy at a positive or a negative. -/
def ceOf (s : Fin 2 → EReal) (pos : Prop) : EReal := lse s - (if pos then s 1 else s 0)

/-- The log probability as the reference writes it. -/
def logProb (s : Fin 2 → EReal) (c : Fin 2) : EReal :=
  s c - max (s 0) (s 1) - Ideal.log (0 + (Ideal.exp (s 0 - max (s 0) (s 1)) + Ideal.exp (s 1 - max (s 0) (s 1))))

theorem exp_coe (r : ℝ) : Ideal.exp (r : EReal) = ((Real.exp r : ℝ) : EReal) := rfl
theorem log_coe (r : ℝ) (h : 0 < r) : Ideal.log (r : EReal) = ((Real.log r : ℝ) : EReal) := if_neg (not_le.2 h)

/-- On finite scores the cross entropy is a real number, not below zero, and is minus the log probability. -/
theorem ce_real (s : Fin 2 → EReal) (h : ∀ c, Fin' (s c)) (pos : Prop) :
    (∃ r : ℝ, 0 ≤ r ∧ ceOf s pos = r) ∧ ceOf s pos = -(if pos then logProb s 1 else logProb s 0) := by
  choose r hr using h
  have hpos : 0 < Real.exp (r 0 - max (r 0) (r 1)) + Real.exp (r 1 - max (r 0) (r 1)) := by positivity
  have hone : 1 ≤ Real.exp (r 0 - max (r 0) (r 1)) + Real.exp (r 1 - max (r 0) (r 1)) := by
    rcases le_total (r 0) (r 1) with h | h
    · rw [max_eq_right h, sub_self, Real.exp_zero]; linarith [Real.exp_pos (r 0 - r 1)]
    · rw [max_eq_left h, sub_self, Real.exp_zero]; linarith [Real.exp_pos (r 1 - r 0)]
  have hlog := Real.log_nonneg hone
  have e1 : ceOf s pos = ((max (r 0) (r 1) + Real.log (Real.exp (r 0 - max (r 0) (r 1)) + Real.exp (r 1 - max (r 0) (r 1))) - (if pos then r 1 else r 0) : ℝ) : EReal) := by
    unfold ceOf lse
    rw [hr 0, hr 1, max_coe, ← EReal.coe_sub, ← EReal.coe_sub, exp_coe, exp_coe, zero_add, ← EReal.coe_add, log_coe _ hpos, ← EReal.coe_add]
    split_ifs <;> rw [← EReal.coe_sub]
  have e2 : ∀ c, logProb s c = ((r c - max (r 0) (r 1) - Real.log (Real.exp (r 0 - max (r 0) (r 1)) + Real.exp (r 1 - max (r 0) (r 1))) : ℝ) : EReal) := fun c => by
    unfold logProb
    simp only [hr, max_coe, ← EReal.coe_sub, exp_coe, zero_add, ← EReal.coe_add, log_coe _ hpos]
  refine ⟨⟨_, ?_, e1⟩, ?_⟩
  · split_ifs
    · linarith [le_max_right (r 0) (r 1)]
    · linarith [le_max_left (r 0) (r 1)]
  · rw [e1, e2, e2]
    split_ifs <;> rw [← EReal.coe_neg, EReal.coe_eq_coe_iff] <;> ring

/-- How many priors there are. -/
abbrev NP : ℕ := 24564
instance : NeZero NP := ⟨by decide⟩

/-- What one batch row's loss is computed from. -/
structure Row where
  pr : Fin NP → Fin 4 → EReal
  bx : Fin 16 → Fin 4 → EReal
  lc : Fin NP → Fin 4 → EReal
  sc : Fin NP → Fin 2 → EReal

namespace Row

variable (R : Row)

/-- Finite scores, good boxes and good priors. -/
structure Good : Prop where
  sc : ∀ p c, Fin' (R.sc p c)
  bx : ∀ j, GoodBox (R.bx j)
  pr : ∀ p, GoodPrior (R.pr p)

/-- The overlap of object and prior. -/
def ov (j : Fin 16) (p : Fin NP) : EReal := ovOf (R.pr p) (R.bx j)
/-- An object's best prior. -/
def best (j : Fin 16) : Fin NP := firstMax (R.ov j)
/-- The object a prior is matched to. -/
def mt (p : Fin NP) : Fin 16 := matchOf (fun j => R.ov j p) (fun j => R.best j = p)
/-- The positive priors. -/
def pos (p : Fin NP) : Prop := posOf (fun j => R.ov j p) (fun j => R.best j = p)
/-- One at the positives, zero elsewhere. -/
def pf (p : Fin NP) : EReal := if R.pos p then 1 else 0
/-- The localisation error at a prior. -/
def l1 (p : Fin NP) : EReal := l1Of (R.pr p) (R.bx (R.mt p)) (R.lc p)
/-- The cross entropy at a prior. -/
def ce (p : Fin NP) : EReal := ceOf (R.sc p) (R.pos p)
/-- The losses the hard negatives are chosen from. -/
def neg (p : Fin NP) : EReal := if R.pos p then 0 else R.ce p

/-- The row's sums: the localisation error and the cross entropy over the positives, and the positives' number. -/
def locS : EReal := ∑ p, if R.pos p then R.l1 p else 0
def confS : EReal := ∑ p, if R.pos p then R.ce p else 0
def nS : EReal := ∑ p, R.pf p

/-- The grid's step. -/
def step : EReal := Ideal.div (Finset.univ.sup R.neg + 1) ((4 ^ 12 : ℝ) : EReal)
/-- The threshold: `K` rounded up to the grid, at least one step. -/
def thrK (K : EReal) : EReal := R.step * max (Ideal.liftRound Int.ceil (Ideal.div K R.step)) 1
/-- The hard negatives' sum at the threshold of `K`. -/
def hardK (K : EReal) : EReal := (∑ p, max (R.neg p - R.thrK K) 0) + ((3 : ℝ) : EReal) * R.nS * R.thrK K

/-- How many positives, as a natural number. -/
def nN : ℕ := (Finset.univ.filter fun p => R.pos p).card

theorem nS_eq : R.nS = ((R.nN : ℝ) : EReal) := by
  have : ∀ p, R.pf p = (((if R.pos p then 1 else 0 : ℝ)) : EReal) := fun p => by unfold pf; split_ifs <;> simp
  unfold nS nN
  rw [Finset.sum_congr rfl fun p _ => this p, sum_coe, Finset.sum_boole]

/-- There is always a positive: some object's best prior. -/
theorem nN_pos : 1 ≤ R.nN := Finset.card_pos.2 ⟨R.best 0, by
  simp only [Finset.mem_filter, Finset.mem_univ, true_and]; exact .inl ⟨0, rfl⟩⟩

theorem neg_real (hR : R.Good) : ∃ ng : Fin NP → ℝ, (∀ p, 0 ≤ ng p) ∧ ∀ p, R.neg p = ng p := by
  have : ∀ p, ∃ r : ℝ, 0 ≤ r ∧ R.neg p = r := fun p => by
    unfold neg
    by_cases h : R.pos p
    · exact ⟨0, le_rfl, by rw [if_pos h]; rfl⟩
    · rw [if_neg h]; exact (ce_real _ (hR.sc p) _).1
  choose ng h using this
  exact ⟨ng, fun p => (h p).1, fun p => (h p).2⟩

end Row

/-! ## The padded plane -/

variable {ι : Type} [Fintype ι]

/-- A sum over the plane of what is zero off the priors is the sum over the priors. -/
theorem sum_plane {M : Type} [AddCommMonoid M] (n : ι ≃ Fin 24576) (f : ι → M) (g : Fin NP → M)
    (hg : ∀ q (h : (n q).val < NP), f q = g ⟨(n q).val, h⟩) (h0 : ∀ q, ¬ (n q).val < NP → f q = 0) : ∑ q, f q = ∑ p, g p := by
  symm
  refine Finset.sum_of_injOn (fun p : Fin NP => n.symm ⟨p.val, p.isLt.trans (by decide)⟩) ?_ (fun _ _ => by simp) ?_ ?_
  · intro a _ b _ h
    have := n.symm.injective h
    exact Fin.ext (by simpa using this)
  · intro q _ hq
    refine h0 q fun hlt => hq ?_
    exact ⟨⟨(n q).val, hlt⟩, by simp, by simp⟩
  · intro p _
    rw [hg _ (by simp)]
    congr 1
    exact Fin.ext (by simp)

/-- How many numbers lie above `t`, as the kernel counts. -/
def cntE (v : ι → EReal) (t : EReal) : EReal := ∑ q, if t < v q then 1 else 0

theorem cntE_coe (v : ι → ℝ) (t : ℝ) : cntE (fun q => ((v q : ℝ) : EReal)) t = ((Search.cnt v t : ℝ) : EReal) := by
  unfold cntE Search.cnt
  have : ∀ q, (if ((t : ℝ) : EReal) < ((v q : ℝ) : EReal) then (1 : EReal) else 0) = ((if t < v q then 1 else 0 : ℝ) : EReal) := fun q => by
    simp only [EReal.coe_lt_coe_iff]; split_ifs <;> simp
  rw [Finset.sum_congr rfl fun q _ => this q, sum_coe, Finset.sum_boole]

/-- One trip of the search, as the kernel makes it. -/
def tripE (v : ι → EReal) (k : EReal) (p : EReal × EReal) : EReal × EReal :=
  let m1 := p.1 + (p.2 - p.1) * ((1 / 4 : ℝ) : EReal)
  let m2 := p.1 + (p.2 - p.1) * ((1 / 2 : ℝ) : EReal)
  let m3 := p.1 + (p.2 - p.1) * ((3 / 4 : ℝ) : EReal)
  (if k ≤ cntE v m3 then m3 else if k ≤ cntE v m2 then m2 else if k ≤ cntE v m1 then m1 else p.1,
   if cntE v m1 < k then m1 else if cntE v m2 < k then m2 else if cntE v m3 < k then m3 else p.2)

/-- A pair of real numbers read as extended reals. -/
def up (p : ℝ × ℝ) : EReal × EReal := (p.1, p.2)

theorem tripE_coe (v : ι → ℝ) (k : ℕ) (p : ℝ × ℝ) : tripE (fun q => ((v q : ℝ) : EReal)) ((k : ℝ) : EReal) (up p) = up (Search.trip v k p) := by
  have m : ∀ c : ℝ, ((p.1 : ℝ) : EReal) + (((p.2 : ℝ) : EReal) - ((p.1 : ℝ) : EReal)) * ((c : ℝ) : EReal) = ((p.1 + (p.2 - p.1) * c : ℝ) : EReal) := fun c => by
    rw [← EReal.coe_sub, ← EReal.coe_mul, ← EReal.coe_add]
  unfold tripE Search.trip up
  simp only [m, cntE_coe, EReal.coe_le_coe_iff, EReal.coe_lt_coe_iff, Nat.cast_le, Nat.cast_lt]
  ext
  · split_ifs <;> rfl
  · split_ifs <;> rfl

theorem tripsE_coe (v : ι → ℝ) (k n : ℕ) (p : ℝ × ℝ) :
    (tripE (fun q => ((v q : ℝ) : EReal)) ((k : ℝ) : EReal))^[n] (up p) = up ((Search.trip v k)^[n] p) := by
  induction n generalizing p with
  | zero => rfl
  | succ n ih => rw [Function.iterate_succ_apply, Function.iterate_succ_apply, tripE_coe, ih]

/-- The hard negatives' sum at a threshold, as the kernel adds it. -/
def hardE (v : ι → EReal) (k t : EReal) : EReal := (∑ q, if t < v q then v q else 0) + max (k - cntE v t) 0 * t

/-- The threshold the kernel's search ends at. -/
def hiE (v : ι → EReal) (k : EReal) : EReal := ((tripE v k)^[12] (0, Finset.univ.sup v + 1)).2

/-- The kernel's search over the padded plane gives the hard negatives' sum at the k-th largest loss rounded up to the grid. -/
theorem hard_plane (R : Row) (hR : R.Good) (n : ι ≃ Fin 24576) (v : ι → EReal)
    (hv : ∀ q (h : (n q).val < NP), v q = R.neg ⟨(n q).val, h⟩) (h0 : ∀ q, ¬ (n q).val < NP → v q = 0)
    (ng : Fin NP → ℝ) (hng : ∀ p, R.neg p = ng p) (K : ℝ) (hK : Search.IsKth ng (3 * R.nN) K) :
    hardE v (((3 : ℝ) : EReal) * R.nS) (hiE v (((3 : ℝ) : EReal) * R.nS)) = R.hardK K := by
  have hng0 : ∀ p, 0 ≤ ng p := fun p => by
    obtain ⟨ng', h0', h1'⟩ := R.neg_real hR
    have : ((ng p : ℝ) : EReal) = ng' p := by rw [← hng, h1']
    rw [EReal.coe_eq_coe_iff.1 this]; exact h0' p
  -- the plane's numbers are real
  obtain ⟨w, hw⟩ : ∃ w : ι → ℝ, w = fun q => if h : (n q).val < NP then ng ⟨(n q).val, h⟩ else 0 := ⟨_, rfl⟩
  have hvw : v = fun q => ((w q : ℝ) : EReal) := funext fun q => by
    rw [hw]; dsimp only
    by_cases h : (n q).val < NP
    · rw [hv q h, hng, dif_pos h]
    · rw [h0 q h, dif_neg h]; rfl
  have hw1 : ∀ q (h : (n q).val < NP), w q = ng ⟨(n q).val, h⟩ := fun q h => by rw [hw]; exact dif_pos h
  have hw2 : ∀ q, ¬ (n q).val < NP → w q = 0 := fun q h => by rw [hw]; exact dif_neg h
  -- the count of positives
  have hk : ((3 : ℝ) : EReal) * R.nS = (((3 * R.nN : ℕ) : ℝ) : EReal) := by
    rw [R.nS_eq, ← EReal.coe_mul]; push_cast; rfl
  have hk1 : 1 ≤ 3 * R.nN := by have := R.nN_pos; omega
  rw [hk]
  -- the greatest loss
  obtain ⟨M, hM, hM0, hMub⟩ : ∃ M : ℝ, Finset.univ.sup R.neg = M ∧ 0 ≤ M ∧ ∀ p, ng p ≤ M := by
    obtain ⟨p, -, hp⟩ := Finset.exists_max_image (Finset.univ : Finset (Fin NP)) ng ⟨0, Finset.mem_univ _⟩
    refine ⟨ng p, le_antisymm (Finset.sup_le fun q _ => ?_) ?_, hng0 p, fun q => hp q (Finset.mem_univ _)⟩
    · rw [hng]; exact_mod_cast hp q (Finset.mem_univ _)
    · rw [← hng]; exact Finset.le_sup (Finset.mem_univ p)
  have hsup : Finset.univ.sup v = M := by
    refine le_antisymm (Finset.sup_le fun q _ => ?_) ?_
    · rw [hvw]; dsimp only
      by_cases h : (n q).val < NP
      · rw [hw1 q h]; exact_mod_cast hMub _
      · rw [hw2 q h]; exact_mod_cast hM0
    · rw [← hM]
      refine Finset.sup_le fun p _ => ?_
      have hp : (n (n.symm ⟨p.val, p.isLt.trans (by decide)⟩)).val < NP := by simp
      have := Finset.le_sup (f := v) (Finset.mem_univ (n.symm ⟨p.val, p.isLt.trans (by decide)⟩))
      rw [hv _ hp] at this
      convert this using 2
      exact Fin.ext (by simp)
  -- the step
  obtain ⟨d, hd⟩ : ∃ d : ℝ, d = (M + 1) / 4 ^ 12 := ⟨_, rfl⟩
  have hd0 : 0 < d := by rw [hd]; positivity
  have hstep : R.step = d := by
    unfold Row.step
    rw [hM, ← EReal.coe_one, ← EReal.coe_add, div_coe _ _ (by norm_num), hd]
  -- counts over the plane and over the priors agree
  have hcnt : ∀ t : ℝ, 0 ≤ t → Search.cnt w t = Search.cnt ng t := fun t ht => by
    unfold Search.cnt
    rw [Finset.card_filter, Finset.card_filter]
    refine sum_plane n _ _ (fun q h => by rw [hw1 q h]) (fun q h => ?_)
    rw [hw2 q h, if_neg (not_lt.2 ht)]
  have hKw : Search.IsKth w (3 * R.nN) K := fun t ht => by rw [hcnt t ht]; exact hK t ht
  -- the search
  have hwM : ∀ q, w q ≤ M := fun q => by
    by_cases h : (n q).val < NP
    · rw [hw1 q h]; exact hMub _
    · rw [hw2 q h]; exact hM0
  have hinit : Search.Inv w (3 * R.nN) (4 ^ 12 * d) 0 (0, M + 1) := by
    refine ⟨by simp, ?_, .inl rfl, ?_⟩
    · rw [hd]; push_cast; ring
    · have : Search.cnt w (M + 1) = 0 := by
        unfold Search.cnt
        rw [Finset.card_eq_zero, Finset.filter_eq_empty_iff]
        intro q _; linarith [hwM q]
      show Search.cnt w (M + 1) < _
      omega
  obtain ⟨i, hi⟩ := Search.trips_inv w (3 * R.nN) d hd0 12 0 (0, M + 1) hinit
  obtain ⟨e, he⟩ : ∃ e : ℝ × ℝ, (Search.trip w (3 * R.nN))^[12] (0, M + 1) = e := ⟨_, rfl⟩
  rw [he] at hi
  obtain ⟨t, ht⟩ : ∃ t : ℝ, t = e.2 := ⟨_, rfl⟩
  have hhi : hiE v (((3 * R.nN : ℕ) : ℝ) : EReal) = t := by
    unfold hiE
    rw [hsup, hvw, show ((0 : EReal), (M : EReal) + 1) = up (0, M + 1) by unfold up; simp, tripsE_coe, he, ht]; rfl
  have ht0 : 0 ≤ t := by rw [ht, hi.2.1]; exact mul_nonneg (by have : (0:ℝ) ≤ i := Nat.cast_nonneg i; linarith) hd0.le
  have hceil := Search.ceil_eq w _ d hd0 i _ hi K hKw
  rw [← ht] at hceil
  have hthr : R.thrK K = t := by
    unfold Row.thrK
    rw [hstep, div_coe _ _ hd0.ne', ← hceil]
    show (d : EReal) * max ((((⌈K / d⌉ : ℤ) : ℝ)) : EReal) 1 = _
    rw [← EReal.coe_one, max_coe, ← EReal.coe_mul]
  have hfew : Search.cnt w t < 3 * R.nN := by rw [ht]; exact hi.2.2.2
  -- the sums
  rw [hhi]
  unfold hardE Row.hardK
  rw [hthr, hk, hvw, cntE_coe]
  have s1 : ∀ q, (if ((t : ℝ) : EReal) < ((w q : ℝ) : EReal) then ((w q : ℝ) : EReal) else 0) = ((if t < w q then w q else 0 : ℝ) : EReal) := fun q => by
    simp only [EReal.coe_lt_coe_iff]; split_ifs <;> simp
  have s2 : ∀ p, max (R.neg p - ((t : ℝ) : EReal)) 0 = ((max (ng p - t) 0 : ℝ) : EReal) := fun p => by
    rw [hng, ← EReal.coe_sub, ← EReal.coe_zero, max_coe]
  rw [Finset.sum_congr rfl fun q _ => s1 q, Finset.sum_congr rfl fun p _ => s2 p, sum_coe, sum_coe, ← EReal.coe_sub, ← EReal.coe_zero, max_coe,
    ← EReal.coe_mul, ← EReal.coe_mul, ← EReal.coe_add, ← EReal.coe_add, EReal.coe_eq_coe_iff, Search.hard_eq w _ t hfew]
  refine congrArg (fun x => x + _) ?_
  refine sum_plane n _ _ (fun q h => by rw [hw1 q h]) (fun q h => ?_)
  rw [hw2 q h]; exact max_eq_right (by linarith)

end Cert.Proof.Spec

end
-- ==== Proof.KMatch.lean ====
/-
  What the kernel's row function stores, over the extended reals: the row's sums as the specification names them.
-/
module

public import proofs.«01_k».proof.Proof.Row
public import proofs.«01_k».proof.Proof.Words
public import proofs.«01_k».proof.Proof.Loss

@[expose] public section

noncomputable section

namespace Cert.Proof

open Cert.KernelIdeal Cert.KernelIdeal.Gen
open Idealize.ShloMosaic Idealize.SL.Sem
open Cert.Proof.Spec (NP Row)
open scoped Classical

/-- The number of a place: 128 times its line plus its lane. -/
def nP : Fin 192 × Fin 128 ≃ Fin 24576 := (finProdFinEquiv : Fin 192 × Fin 128 ≃ Fin (192 * 128))

theorem nP_val (q : Fin 192 × Fin 128) : (nP q).val = q.2.val + 128 * q.1.val := rfl

/-- The blocks hold the row's data on the priors; the pads hold zero priors. -/
structure Reads (R : Row) (pri locs : Vec Ideal S1x4x192x128 .f32) (box : Vec Ideal S1x16x4 .f32) (sc : Vec Ideal S1x2x192x128 .f32) : Prop where
  priE : ∀ (q : Fin 192 × Fin 128) (h : (nP q).val < NP) (c : Fin 4), pri (ix4 0 c q.1 q.2) = R.pr ⟨(nP q).val, h⟩ c
  padE : ∀ q : Fin 192 × Fin 128, ¬ (nP q).val < NP → ∀ c : Fin 4, pri (ix4 0 c q.1 q.2) = 0
  boxE : ∀ (j : Fin 16) (c : Fin 4), box (ix3 0 j c) = R.bx j c
  locsE : ∀ (q : Fin 192 × Fin 128) (h : (nP q).val < NP) (c : Fin 4), locs (ix4 0 c q.1 q.2) = R.lc ⟨(nP q).val, h⟩ c
  scE : ∀ (q : Fin 192 × Fin 128) (h : (nP q).val < NP) (c : Fin 2), sc (ix4 0 c q.1 q.2) = R.sc ⟨(nP q).val, h⟩ c

/-! ## The operations at a place -/

theorem idxV_at (q : Fin 192 × Fin 128) : idxV (ix2 q.1 q.2) = BitVec.ofNat 32 (nP q).val := by
  unfold idxV; pointwise
  rw [nP_val]
  show BitVec.ofNat 32 q.1.val * 128#32 + BitVec.ofNat 32 q.2.val = _
  apply BitVec.eq_of_toNat_eq
  have h1 := q.1.isLt
  have h2 := q.2.isLt
  simp only [BitVec.toNat_add, BitVec.toNat_mul, BitVec.toNat_ofNat]
  omega

theorem chan4_at (x : Vec Ideal S1x4x192x128 .f32) (c : ℕ) (hc : c < 4) (r : Fin 192) (l : Fin 128) :
    chan4 x c hc (ix2 r l) = x (ix4 0 ⟨c, hc⟩ r l) := by
  unfold chan4; pointwise

theorem chan2_at (x : Vec Ideal S1x2x192x128 .f32) (c : ℕ) (hc : c < 2) (r : Fin 192) (l : Fin 128) :
    chan2 x c hc (ix2 r l) = x (ix4 0 ⟨c, hc⟩ r l) := by
  unfold chan2; pointwise

theorem boxV_at (x : Vec Ideal S1x16x4 .f32) (c : ℕ) (hc : c < 4) (j : Fin 16) : boxV x c hc (ix3 j 0 0) = x (ix3 0 j ⟨c, hc⟩) := by
  unfold boxV; pointwise

theorem atObj_at (x : FVec Ideal S16x1x1 .f32) (j : ℕ) (hj : j < 16) (r : Fin 192) (l : Fin 128) :
    atObj x j hj (ix2 r l) = x (ix3 ⟨j, hj⟩ 0 0) := by
  unfold atObj; pointwise

theorem ovV_at (pri : Vec Ideal S1x4x192x128 .f32) (box : Vec Ideal S1x16x4 .f32) (j : Fin 16) (r : Fin 192) (l : Fin 128) :
    ovV pri box (ix3 j r l) = Spec.ovOf (fun c => pri (ix4 0 c r l)) (fun c => box (ix3 0 j c)) := by
  unfold ovV interV px0V px1V py0V py1V
  pointwise
  simp only [chan4_at, boxV_at, Spec.c_two]
  rfl

theorem code_at (j : Fin 16) : (Ideal.ofBits .f32 (codeBits j.val) : EReal) = ((2 + j.val : ℝ) : EReal) := by
  have e : ∀ x y : EReal, x = y → x = y := fun _ _ h => h
  fin_cases j <;> simp [codeBits, Ideal.ofBits, Ideal.ieee] <;> norm_num <;> refine e _ _ ?_ <;>
    first
      | (rw [← EReal.coe_mul, ← EReal.coe_add, EReal.coe_eq_coe_iff]; norm_num)
      | (rw [← EReal.coe_mul, ← EReal.coe_one, ← EReal.coe_add, EReal.coe_eq_coe_iff]; norm_num)
      | (rw [← EReal.coe_mul, EReal.coe_eq_coe_iff]; norm_num)

theorem pjAt (pj : IVec S16x1x1 32) (j : ℕ) (hj : j < 16) (r : Fin 192) (l : Fin 128) :
    broadcastTo S192x128 (shapeCast S1x1 (extractStridedSlice S1x1x1 ![j, 0, 0] pj (slicesJ j hj)) shapeCasts_S1x1x1_S1x1) broadcasts_S1x1_S192x128 (ix2 r l)
      = pj (ix3 ⟨j, hj⟩ 0 0) := by
  pointwise

theorem ovAt (ov : FVec Ideal S16x192x128 .f32) (j : ℕ) (hj : j < 16) (r : Fin 192) (l : Fin 128) :
    shapeCast S192x128 (extractStridedSlice S1x192x128 ![j, 0, 0] ov (slicesP j hj)) shapeCasts_S1x192x128_S192x128 (ix2 r l) = ov (ix3 ⟨j, hj⟩ r l) := by
  pointwise

theorem valJ_at (ov : FVec Ideal S16x192x128 .f32) (pj : IVec S16x1x1 32) (j : ℕ) (hj : j < 16) (q : Fin 192 × Fin 128)
    (t : Fin 16 → Prop) (ht : ∀ j, pj (ix3 j 0 0) = BitVec.ofNat 32 (nP q).val ↔ t j) :
    valJ ov pj j hj (ix2 q.1 q.2) = Spec.valOf (fun j => ov (ix3 j q.1 q.2)) t ⟨j, hj⟩ := by
  refine (Spec.sel_bit (p := t ⟨j, hj⟩) ?_ _ _).trans (if_congr Iff.rfl (code_at ⟨j, hj⟩) (ovAt ov j hj q.1 q.2))
  refine (Spec.bit_cmpi_eq _ _).trans ?_
  rw [idxV_at, pjAt pj j hj q.1 q.2, ← ht]
  exact ⟨Eq.symm, Eq.symm⟩

/-- What the matching has found after some objects, at a place: an object, its value, and its box. -/
theorem match_found (box : Vec Ideal S1x16x4 .f32) (ov : FVec Ideal S16x192x128 .f32) (pj : IVec S16x1x1 32) (q : Fin 192 × Fin 128)
    (t : Fin 16 → Prop) (ht : ∀ j, pj (ix3 j 0 0) = BitVec.ofNat 32 (nP q).val ↔ t j)
    (ho : ∀ j : Fin 16, 0 ≤ ov (ix3 j q.1 q.2) ∧ ov (ix3 j q.1 q.2) ≤ 1) (n : ℕ) (hn : n + 1 ≤ 16) :
    ∃ w : Fin 16, Spec.Found (fun j => ov (ix3 j q.1 q.2)) t (n + 1) ((matchUpTo box ov pj (n + 1) hn).m (ix2 q.1 q.2)) w
      ∧ (matchUpTo box ov pj (n + 1) hn).x0 (ix2 q.1 q.2) = box (ix3 0 w 0)
      ∧ (matchUpTo box ov pj (n + 1) hn).y0 (ix2 q.1 q.2) = box (ix3 0 w 1)
      ∧ (matchUpTo box ov pj (n + 1) hn).x1 (ix2 q.1 q.2) = box (ix3 0 w 2)
      ∧ (matchUpTo box ov pj (n + 1) hn).y1 (ix2 q.1 q.2) = box (ix3 0 w 3) := by
  have step : ∀ (k : ℕ) (hk : k < 16) (s : MSt Ideal),
      (s.m (ix2 q.1 q.2) < Spec.valOf (fun j => ov (ix3 j q.1 q.2)) t ⟨k, hk⟩ →
        (matchStep box ov pj k hk s).m (ix2 q.1 q.2) = Spec.valOf (fun j => ov (ix3 j q.1 q.2)) t ⟨k, hk⟩
        ∧ (matchStep box ov pj k hk s).x0 (ix2 q.1 q.2) = box (ix3 0 ⟨k, hk⟩ 0)
        ∧ (matchStep box ov pj k hk s).y0 (ix2 q.1 q.2) = box (ix3 0 ⟨k, hk⟩ 1)
        ∧ (matchStep box ov pj k hk s).x1 (ix2 q.1 q.2) = box (ix3 0 ⟨k, hk⟩ 2)
        ∧ (matchStep box ov pj k hk s).y1 (ix2 q.1 q.2) = box (ix3 0 ⟨k, hk⟩ 3))
      ∧ (¬ s.m (ix2 q.1 q.2) < Spec.valOf (fun j => ov (ix3 j q.1 q.2)) t ⟨k, hk⟩ →
        (matchStep box ov pj k hk s).m (ix2 q.1 q.2) = s.m (ix2 q.1 q.2)
        ∧ (matchStep box ov pj k hk s).x0 (ix2 q.1 q.2) = s.x0 (ix2 q.1 q.2)
        ∧ (matchStep box ov pj k hk s).y0 (ix2 q.1 q.2) = s.y0 (ix2 q.1 q.2)
        ∧ (matchStep box ov pj k hk s).x1 (ix2 q.1 q.2) = s.x1 (ix2 q.1 q.2)
        ∧ (matchStep box ov pj k hk s).y1 (ix2 q.1 q.2) = s.y1 (ix2 q.1 q.2)) := fun k hk s => by
    have bit : cmpf .ogt (valJ ov pj k hk) s.m (ix2 q.1 q.2) = 1#1 ↔ s.m (ix2 q.1 q.2) < Spec.valOf (fun j => ov (ix3 j q.1 q.2)) t ⟨k, hk⟩ := by
      show Ideal.cmp .ogt (valJ ov pj k hk (ix2 q.1 q.2)) (s.m (ix2 q.1 q.2)) = 1#1 ↔ _
      rw [Spec.bit_ogt, valJ_at ov pj k hk q t ht]
    have sel : ∀ a b : FVec Ideal S192x128 .f32, select (cmpf .ogt (valJ ov pj k hk) s.m) a b (ix2 q.1 q.2)
        = if s.m (ix2 q.1 q.2) < Spec.valOf (fun j => ov (ix3 j q.1 q.2)) t ⟨k, hk⟩ then a (ix2 q.1 q.2) else b (ix2 q.1 q.2) := fun a b => Spec.sel_bit bit _ _
    unfold matchStep
    dsimp only
    simp only [sel, atObj_at, boxV_at, valJ_at ov pj k hk q t ht]
    constructor
    · intro h; simp only [if_pos h]; exact ⟨trivial, rfl, rfl, rfl, rfl⟩
    · intro h; simp only [if_neg h]; exact ⟨trivial, trivial, trivial, trivial, trivial⟩
  induction n with
  | zero =>
    have h1 := Spec.found_first (fun j => ov (ix3 j q.1 q.2)) t ho
    have h2 := (step 0 (by omega) (matchUpTo box ov pj 0 (by omega))).1 (by
      show Ideal.ofBits .f32 0xBF800000#32 < _
      rw [Spec.c_negOne]; exact h1.1)
    refine ⟨0, ?_, h2.2⟩
    exact Eq.mp (congrArg (fun m => Spec.Found (fun j => ov (ix3 j q.1 q.2)) t 1 m 0) (Eq.symm h2.1)) h1.2
  | succ n ih =>
    obtain ⟨w, hf, hb⟩ := ih (by omega)
    obtain ⟨n1, n2⟩ := Spec.found_next (fun j => ov (ix3 j q.1 q.2)) t ho (n + 1) (by omega) _ w hf
    obtain ⟨s1, s2⟩ := step (n + 1) (by omega) (matchUpTo box ov pj (n + 1) (by omega))
    by_cases h : (matchUpTo box ov pj (n + 1) (by omega)).m (ix2 q.1 q.2) < Spec.valOf (fun j => ov (ix3 j q.1 q.2)) t ⟨n + 1, by omega⟩
    · refine ⟨⟨n + 1, by omega⟩, ?_, (s1 h).2⟩
      have := n1 h
      rw [← (s1 h).1] at this
      exact this
    · obtain ⟨e1, e2, e3, e4, e5⟩ := s2 h
      refine ⟨w, ?_, e2.trans hb.1, e3.trans hb.2.1, e4.trans hb.2.2.1, e5.trans hb.2.2.2⟩
      have := n2 h
      rw [← e1] at this
      exact this

end Cert.Proof

end
-- ==== Proof.KSearch.lean ====
/-
  What the kernel's row function stores, over the extended reals: the row's sums as the specification names them.
-/
module

public import proofs.«01_k».proof.Proof.Row
public import proofs.«01_k».proof.Proof.Words
public import proofs.«01_k».proof.Proof.Loss
public import proofs.«01_k».proof.Proof.KMatch

@[expose] public section

noncomputable section

namespace Cert.Proof

open Cert.KernelIdeal Cert.KernelIdeal.Gen
open Idealize.ShloMosaic Idealize.SL.Sem
open Cert.Proof.Spec (NP Row)
open scoped Classical

/-! ## The search -/

/-- A plane's numbers by place. -/
abbrev plane (v : FVec Ideal S192x128 .f32) (q : Fin 192 × Fin 128) : EReal := v (ix2 q.1 q.2)
/-- The number of a one-by-one vector. -/
abbrev one (x : FVec Ideal S1x1 .f32) : EReal := x (ix2 0 0)

theorem sumV_all (x : FVec Ideal S192x128 .f32) : sumV x = ∑ q : Fin 192 × Fin 128, x (ix2 q.1 q.2) := by
  unfold sumV; pointwise
  rw [Fintype.sum_prod_type]

theorem maxV_all (x : FVec Ideal S192x128 .f32) : maxV x = Finset.univ.sup fun q : Fin 192 × Fin 128 => x (ix2 q.1 q.2) := by
  unfold maxV; pointwise
  rw [Spec.c_bot]; rfl

theorem tAt (t : FVec Ideal S1x1 .f32) (r : Fin 192) (l : Fin 128) : broadcastTo S192x128 t broadcasts_S1x1_S192x128 (ix2 r l) = one t := by
  pointwise

theorem cnt_at (v : FVec Ideal S192x128 .f32) (t : FVec Ideal S1x1 .f32) : one (cntV v t) = Spec.cntE (plane v) (one t) := by
  show sumV _ = _
  rw [sumV_all]
  refine Finset.sum_congr rfl fun q _ => ?_
  exact (Spec.sel_bit (Spec.bit_ogt _ _) _ _).trans (if_congr (iff_of_eq (congrArg (· < v (ix2 q.1 q.2)) (tAt t q.1 q.2))) Spec.c_one Spec.c_zero)

theorem mid_at (p : FVec Ideal S1x1 .f32 × FVec Ideal S1x1 .f32) (b : BitVec 32) :
    one (midV p b) = one p.1 + (one p.2 - one p.1) * Ideal.ofBits .f32 b := rfl

theorem sel_oge (x y a b : FVec Ideal S1x1 .f32) : one (select (cmpf .oge x y) a b) = if one y ≤ one x then one a else one b :=
  Spec.sel_bit (Spec.bit_oge _ _) _ _
theorem sel_olt (x y a b : FVec Ideal S1x1 .f32) : one (select (cmpf .olt x y) a b) = if one x < one y then one a else one b :=
  Spec.sel_bit (Spec.bit_olt _ _) _ _

theorem trip_at (v : FVec Ideal S192x128 .f32) (k : FVec Ideal S1x1 .f32) (p : FVec Ideal S1x1 .f32 × FVec Ideal S1x1 .f32) :
    (one (trip v k p).1, one (trip v k p).2) = Spec.tripE (plane v) (one k) (one p.1, one p.2) := by
  unfold trip Spec.tripE
  simp only [sel_oge, sel_olt, cnt_at, mid_at, Spec.c_quarter, Spec.c_half, Spec.c_threeQ]

theorem trips_at (v : FVec Ideal S192x128 .f32) (k : FVec Ideal S1x1 .f32) (n : ℕ) (p : FVec Ideal S1x1 .f32 × FVec Ideal S1x1 .f32)
    (p' : EReal × EReal) (hp : (one p.1, one p.2) = p') :
    (one ((trip v k)^[n] p).1, one ((trip v k)^[n] p).2) = (Spec.tripE (plane v) (one k))^[n] p' := by
  subst hp
  induction n generalizing p with
  | zero => rfl
  | succ n ih => rw [Function.iterate_succ_apply, Function.iterate_succ_apply, ih, trip_at]

theorem init_at (v : FVec Ideal S192x128 .f32) : (one (init0 v).1, one (init0 v).2) = ((0 : EReal), Finset.univ.sup (plane v) + 1) := by
  refine Prod.ext Spec.c_zero ?_
  rw [← maxV_all]
  unfold init0
  dsimp only [one]
  pointwise

theorem searchHi_at (v : FVec Ideal S192x128 .f32) (k : FVec Ideal S1x1 .f32) : one (searchHi v k (init0 v)) = Spec.hiE (plane v) (one k) := by
  unfold searchHi searched Spec.hiE
  rw [List.foldl_const, List.length_finRange]
  exact congrArg Prod.snd (trips_at v k 12 (init0 v) _ (init_at v))

theorem hard_at (v : FVec Ideal S192x128 .f32) (k hi : FVec Ideal S1x1 .f32) : one (hardV v k hi) = Spec.hardE (plane v) (one k) (one hi) := by
  have e : one (hardV v k hi) = (sumV (F := Ideal) (select (cmpf .ogt v (broadcastTo S192x128 hi broadcasts_S1x1_S192x128)) v (cV 0x00000000#32)) : EReal)
      + max (one k - one (cntV v hi)) (Ideal.ofBits .f32 0x00000000#32) * one hi := rfl
  rw [e, sumV_all, cnt_at, Spec.c_zero]
  unfold Spec.hardE
  refine congrArg (fun x : EReal => x + _) (Finset.sum_congr rfl fun q _ => ?_)
  exact (Spec.sel_bit (Spec.bit_ogt _ _) _ _).trans (if_congr (iff_of_eq (congrArg (· < v (ix2 q.1 q.2)) (tAt hi q.1 q.2))) rfl Spec.c_zero)

/-! ## The lanes -/

theorem lanes_at (loc conf hard npos : FVec Ideal S1x1 .f32) :
    lanesV loc conf hard npos (ix3 0 0 0) = one loc ∧ lanesV loc conf hard npos (ix3 0 0 1) = one conf
      ∧ lanesV loc conf hard npos (ix3 0 0 2) = one hard ∧ lanesV loc conf hard npos (ix3 0 0 3) = one npos := by
  unfold lanesV laneV
  refine ⟨?_, ?_, ?_, ?_⟩ <;> pointwise
  · show one loc + (0 : EReal) + (0 : EReal) + (0 : EReal) = _
    rw [add_zero, add_zero, add_zero]
  · show (0 : EReal) + one conf + (0 : EReal) + (0 : EReal) = _
    rw [add_zero, add_zero, zero_add]
  · show (0 : EReal) + (0 : EReal) + one hard + (0 : EReal) = _
    rw [add_zero, add_zero, zero_add]
  · show (0 : EReal) + (0 : EReal) + (0 : EReal) + one npos = _
    rw [add_zero, add_zero, zero_add]

end Cert.Proof

end
-- ==== Proof.KRow.lean ====
/-
  What the kernel's row function stores, over the extended reals: the row's sums as the specification names them.
-/
module

public import proofs.«01_k».proof.Proof.Row
public import proofs.«01_k».proof.Proof.Words
public import proofs.«01_k».proof.Proof.Loss
public import proofs.«01_k».proof.Proof.KMatch
public import proofs.«01_k».proof.Proof.KSearch

@[expose] public section

noncomputable section

namespace Cert.Proof

open Cert.KernelIdeal Cert.KernelIdeal.Gen
open Idealize.ShloMosaic Idealize.SL.Sem
open Cert.Proof.Spec (NP Row)
open scoped Classical

/-! ## The row -/

variable {R : Row} {pri locs : Vec Ideal S1x4x192x128 .f32} {box : Vec Ideal S1x16x4 .f32} {sc : Vec Ideal S1x2x192x128 .f32}

theorem ov_prior (hr : Reads R pri locs box sc) (j : Fin 16) (q : Fin 192 × Fin 128) (h : (nP q).val < NP) :
    ovV pri box (ix3 j q.1 q.2) = R.ov j ⟨(nP q).val, h⟩ := by
  rw [ovV_at]
  unfold Row.ov
  congr 1
  · funext c; exact hr.priE q h c
  · funext c; exact hr.boxE j c

theorem ov_padded (hR : R.Good) (hr : Reads R pri locs box sc) (j : Fin 16) (q : Fin 192 × Fin 128) (h : ¬ (nP q).val < NP) :
    ovV pri box (ix3 j q.1 q.2) = 0 := by
  rw [ovV_at, ← Spec.ov_pad (hR.bx j)]
  congr 1
  · funext c; exact hr.padE q h c
  · funext c; exact hr.boxE j c

theorem ov_01 (hR : R.Good) (hr : Reads R pri locs box sc) (j : Fin 16) (q : Fin 192 × Fin 128) :
    0 ≤ ovV pri box (ix3 j q.1 q.2) ∧ ovV pri box (ix3 j q.1 q.2) ≤ 1 := by
  by_cases h : (nP q).val < NP
  · rw [ov_prior hr j q h]; exact Spec.ov_bounds (hR.pr _) (hR.bx j)
  · rw [ov_padded hR hr j q h]; exact ⟨le_rfl, zero_le_one⟩

/-- The kernel's best prior of an object is the row's. -/
theorem pj_at (hR : R.Good) (hr : Reads R pri locs box sc) (j : Fin 16) : pjV (ovV pri box) (ix3 j 0 0) = BitVec.ofNat 32 (R.best j).val := by
  unfold pjV; pointwise
  obtain ⟨p, hp⟩ : ∃ p, p = R.best j := ⟨_, rfl⟩
  have hfm : Spec.IsFirstMax (R.ov j) p := by rw [hp]; exact Spec.firstMax_spec _
  rw [← hp]
  obtain ⟨q0, hq0⟩ : ∃ q0, nP q0 = (⟨p.val, p.isLt.trans (by decide)⟩ : Fin 24576) := ⟨nP.symm ⟨p.val, p.isLt.trans (by decide)⟩, nP.apply_symm_apply _⟩
  have hv0 : (nP q0).val = p.val := by rw [hq0]
  have hlt0 : (nP q0).val < NP := hv0 ▸ p.isLt
  have e0 : ovV pri box (ix3 j q0.1 q0.2) = R.ov j p := (ov_prior hr j q0 hlt0).trans (congrArg _ (Fin.ext hv0))
  have hmax : ∀ q : Fin 192 × Fin 128, ovV pri box (ix3 j q.1 q.2) ≤ R.ov j p := fun q => by
    by_cases h : (nP q).val < NP
    · rw [ov_prior hr j q h]; exact hfm.1 _
    · rw [ov_padded hR hr j q h]; exact (Spec.ov_bounds (hR.pr _) (hR.bx j)).1
  have hge : ∀ q : Fin 192 × Fin 128, ovV pri box (ix3 j q.1 q.2) = R.ov j p → p.val ≤ (nP q).val := fun q hq => by
    by_contra hlt
    have h : (nP q).val < NP := by have := p.isLt; omega
    have := hfm.2 ⟨(nP q).val, h⟩ (by show (nP q).val < p.val; omega)
    rw [← ov_prior hr j q h, hq] at this
    exact lt_irrefl _ this
  rw [Spec.c_bot, Spec.fold_max Finset.univ _ q0 (Finset.mem_univ _) (fun q _ => by rw [e0]; exact hmax q), e0]
  have hf := Spec.fold_minsi (Finset.univ : Finset (Fin 192 × Fin 128))
    (fun x => if ovV pri box (ix3 j x.1 x.2) = R.ov j p then idxV (ix2 x.1 x.2) else 24576#32) 2147483647#32
  obtain ⟨h1, h2, h3⟩ := hf
  apply Spec.toInt_inj
  have hpl := p.isLt
  rw [Spec.toInt_ofNat (by omega)]
  have hle := h2 q0 (Finset.mem_univ _)
  rw [if_pos e0, idxV_at, Spec.toInt_ofNat (by omega), hv0] at hle
  refine le_antisymm hle ?_
  rcases h3 with h3 | ⟨q, -, h3⟩
  · rw [h3]; show (p.val : ℤ) ≤ 2147483647; omega
  · rw [h3]
    by_cases h : ovV pri box (ix3 j q.1 q.2) = R.ov j p
    · have := hge q h
      have hq := (nP q).isLt
      rw [if_pos h, idxV_at, Spec.toInt_ofNat (by omega)]; omega
    · rw [if_neg h]; show (p.val : ℤ) ≤ 24576; omega

/-- At every place the matching has found an object. -/
theorem row_found (hR : R.Good) (hr : Reads R pri locs box sc) (q : Fin 192 × Fin 128) :
    ∃ w : Fin 16, Spec.Found (fun j => ovV pri box (ix3 j q.1 q.2)) (fun j => (R.best j).val = (nP q).val) 16 ((rowM pri box).m (ix2 q.1 q.2)) w
      ∧ (rowM pri box).x0 (ix2 q.1 q.2) = box (ix3 0 w 0) ∧ (rowM pri box).y0 (ix2 q.1 q.2) = box (ix3 0 w 1)
      ∧ (rowM pri box).x1 (ix2 q.1 q.2) = box (ix3 0 w 2) ∧ (rowM pri box).y1 (ix2 q.1 q.2) = box (ix3 0 w 3) :=
  match_found box (ovV pri box) (pjV (ovV pri box)) q (fun j => (R.best j).val = (nP q).val)
    (fun j => by
      have h1 := (R.best j).isLt
      have hNP : NP = 24564 := rfl
      have h2 := (nP q).isLt
      rw [pj_at hR hr, Spec.ofNat_inj (by omega) (by omega)]) (fun j => ov_01 hR hr j q) 15 (by omega)

theorem posV_at (s : MSt Ideal) (q : Fin 192 × Fin 128) : posV s (ix2 q.1 q.2) = 1#1 ↔ ¬ s.m (ix2 q.1 q.2) < Spec.thr := by
  unfold posV Spec.thr
  exact Spec.bit_not (Spec.bit_olt _ _)

theorem valid_at (q : Fin 192 × Fin 128) : validV (ix2 q.1 q.2) = 1#1 ↔ (nP q).val < NP := by
  unfold validV
  refine (Spec.bit_cmpi_slt _ _).trans ?_
  have h2 := (nP q).isLt
  rw [idxV_at, Spec.toInt_ofNat (by omega)]
  show ((nP q).val : ℤ) < 24564 ↔ (nP q).val < 24564
  omega

theorem sel_at (c : IVec S192x128 1) (a b : FVec Ideal S192x128 .f32) (q : Fin 192 × Fin 128) (p : Prop) [Decidable p] (h : c (ix2 q.1 q.2) = 1#1 ↔ p) :
    select c a b (ix2 q.1 q.2) = if p then a (ix2 q.1 q.2) else b (ix2 q.1 q.2) := Spec.sel_bit h _ _

theorem zero_at (q : Fin 192 × Fin 128) : cV (F := Ideal) 0x00000000#32 (ix2 q.1 q.2) = 0 := Spec.c_zero
theorem one_at (q : Fin 192 × Fin 128) : cV (F := Ideal) 0x3F800000#32 (ix2 q.1 q.2) = 1 := Spec.c_one

theorem negV_at (sc : Vec Ideal S1x2x192x128 .f32) (pos : IVec S192x128 1) (q : Fin 192 × Fin 128) (p : Prop) (hp : pos (ix2 q.1 q.2) = 1#1 ↔ p) :
    negV sc pos (ix2 q.1 q.2) = if (nP q).val < NP ∧ ¬ p then ceV sc pos (ix2 q.1 q.2) else 0 := by
  have bit : andi validV (xori pos (constantI S192x128 1 1#1)) (ix2 q.1 q.2) = 1#1 ↔ (nP q).val < NP ∧ ¬ p := Spec.bit_and (valid_at q) (Spec.bit_not hp)
  unfold negV
  rw [sel_at _ _ _ q _ bit, zero_at]

theorem kV_at (pos : IVec S192x128 1) : one (kV (F := Ideal) pos) = ((3 : ℝ) : EReal) * nPosV (F := Ideal) pos := by
  rw [← Spec.c_three]
  unfold kV
  dsimp only [one]
  pointwise

theorem row_pos_prior (hR : R.Good) (hr : Reads R pri locs box sc) (q : Fin 192 × Fin 128) (h : (nP q).val < NP) :
    posV (rowM pri box) (ix2 q.1 q.2) = 1#1 ↔ R.pos ⟨(nP q).val, h⟩ := by
  obtain ⟨w, hf, -⟩ := row_found hR hr q
  rw [posV_at, hf.pos_iff]
  unfold Row.pos
  simp only [ov_prior hr _ q h, Fin.ext_iff]

theorem row_pos_pad (hR : R.Good) (hr : Reads R pri locs box sc) (q : Fin 192 × Fin 128) (h : ¬ (nP q).val < NP) :
    ¬ posV (rowM pri box) (ix2 q.1 q.2) = 1#1 := by
  obtain ⟨w, hf, -⟩ := row_found hR hr q
  rw [posV_at, not_not]
  rcases hf.2 with ⟨a, -⟩ | ⟨-, e, -⟩
  · have := (R.best w).isLt; exact absurd a (by omega)
  · rw [e]
    show ovV pri box (ix3 w q.1 q.2) < _
    rw [ov_padded hR hr w q h, Spec.thr_eq]
    exact_mod_cast (by norm_num : (0 : ℝ) < 13421773 / 67108864)

theorem row_box (hR : R.Good) (hr : Reads R pri locs box sc) (q : Fin 192 × Fin 128) (h : (nP q).val < NP) :
    (rowM pri box).x0 (ix2 q.1 q.2) = R.bx (R.mt ⟨(nP q).val, h⟩) 0 ∧ (rowM pri box).y0 (ix2 q.1 q.2) = R.bx (R.mt ⟨(nP q).val, h⟩) 1
      ∧ (rowM pri box).x1 (ix2 q.1 q.2) = R.bx (R.mt ⟨(nP q).val, h⟩) 2 ∧ (rowM pri box).y1 (ix2 q.1 q.2) = R.bx (R.mt ⟨(nP q).val, h⟩) 3 := by
  obtain ⟨w, hf, hb⟩ := row_found hR hr q
  have e : R.mt ⟨(nP q).val, h⟩ = w := by
    unfold Row.mt
    refine Spec.matchOf_eq ?_
    have := hf.isMatch
    simpa only [ov_prior hr _ q h, Fin.ext_iff] using this
  simp only [hr.boxE] at hb
  rw [e]; exact hb

/-- A sum over the plane of what is zero off the priors. -/
theorem sumV_at (x : FVec Ideal S192x128 .f32) (g : Fin NP → EReal) (hg : ∀ (q : Fin 192 × Fin 128) (h : (nP q).val < NP), x (ix2 q.1 q.2) = g ⟨(nP q).val, h⟩)
    (h0 : ∀ q : Fin 192 × Fin 128, ¬ (nP q).val < NP → x (ix2 q.1 q.2) = 0) : sumV x = ∑ p, g p := by
  unfold sumV; pointwise
  rw [← Spec.sum_plane nP (fun q => x (ix2 q.1 q.2)) g hg h0, Fintype.sum_prod_type]

end Cert.Proof

end
-- ==== Proof.KSums.lean ====
/-
  What the kernel's row function stores, over the extended reals: the row's sums as the specification names them.
-/
module

public import proofs.«01_k».proof.Proof.Row
public import proofs.«01_k».proof.Proof.Words
public import proofs.«01_k».proof.Proof.Loss
public import proofs.«01_k».proof.Proof.KMatch
public import proofs.«01_k».proof.Proof.KSearch
public import proofs.«01_k».proof.Proof.KRow

@[expose] public section

noncomputable section

namespace Cert.Proof

open Cert.KernelIdeal Cert.KernelIdeal.Gen
open Idealize.ShloMosaic Idealize.SL.Sem
open Cert.Proof.Spec (NP Row)
open scoped Classical

theorem l1V_at (pri locs : Vec Ideal S1x4x192x128 .f32) (s : MSt Ideal) (q : Fin 192 × Fin 128) (b : Fin 4 → EReal)
    (h0 : s.x0 (ix2 q.1 q.2) = b 0) (h1 : s.y0 (ix2 q.1 q.2) = b 1) (h2 : s.x1 (ix2 q.1 q.2) = b 2) (h3 : s.y1 (ix2 q.1 q.2) = b 3) :
    l1V pri locs s (ix2 q.1 q.2) = Spec.l1Of (fun c => pri (ix4 0 c q.1 q.2)) b (fun c => locs (ix4 0 c q.1 q.2)) := by
  unfold l1V
  pointwise
  simp only [chan4_at, h0, h1, h2, h3, Ideal.absf_def, Spec.c_two]
  unfold Spec.l1Of
  rw [Fin.sum_univ_four]
  unfold Spec.dist1 Spec.trueLoc Spec.c10 Spec.c5
  rfl

variable {R : Row} {pri locs : Vec Ideal S1x4x192x128 .f32} {box : Vec Ideal S1x16x4 .f32} {sc : Vec Ideal S1x2x192x128 .f32}

theorem loc_row (hR : R.Good) (hr : Reads R pri locs box sc) : locV pri locs (rowM pri box) = R.locS := by
  unfold locV Row.locS
  refine sumV_at _ _ (fun q h => ?_) (fun q h => ?_)
  · obtain ⟨b0, b1, b2, b3⟩ := row_box hR hr q h
    rw [sel_at _ _ _ q _ (row_pos_prior hR hr q h), zero_at, l1V_at pri locs (rowM pri box) q _ b0 b1 b2 b3]
    unfold Row.l1
    rw [show (fun c => pri (ix4 0 c q.1 q.2)) = R.pr ⟨(nP q).val, h⟩ from funext fun c => hr.priE q h c,
      show (fun c => locs (ix4 0 c q.1 q.2)) = R.lc ⟨(nP q).val, h⟩ from funext fun c => hr.locsE q h c]
  · rw [sel_at _ _ _ q False (iff_false_intro (row_pos_pad hR hr q h)), if_neg not_false, zero_at]

theorem ceV_at (sc : Vec Ideal S1x2x192x128 .f32) (pos : IVec S192x128 1) (q : Fin 192 × Fin 128) (p : Prop) (hp : pos (ix2 q.1 q.2) = 1#1 ↔ p) :
    ceV sc pos (ix2 q.1 q.2) = Spec.ceOf (fun c => sc (ix4 0 c q.1 q.2)) p := by
  have e : ceV sc pos (ix2 q.1 q.2) = Spec.lse (fun c => sc (ix4 0 c q.1 q.2)) - select pos (chan2 sc 1 (by decide)) (chan2 sc 0 (by decide)) (ix2 q.1 q.2) := by
    unfold ceV Spec.lse
    generalize hz : select pos (chan2 sc 1 (by decide)) (chan2 sc 0 (by decide)) = z
    pointwise
    simp only [chan2_at]
    rfl
  rw [e, sel_at _ _ _ q _ hp, chan2_at, chan2_at]
  rfl

theorem ce_at (hr : Reads R pri locs box sc) (pos : IVec S192x128 1) (q : Fin 192 × Fin 128) (h : (nP q).val < NP) (p : Prop) (hp : pos (ix2 q.1 q.2) = 1#1 ↔ p) :
    ceV sc pos (ix2 q.1 q.2) = Spec.ceOf (R.sc ⟨(nP q).val, h⟩) p := by
  rw [ceV_at sc pos q p hp, show (fun c => sc (ix4 0 c q.1 q.2)) = R.sc ⟨(nP q).val, h⟩ from funext fun c => hr.scE q h c]

theorem conf_row (hR : R.Good) (hr : Reads R pri locs box sc) : confV sc (posV (rowM pri box)) = R.confS := by
  unfold confV Row.confS
  refine sumV_at _ _ (fun q h => ?_) (fun q h => ?_)
  · rw [sel_at _ _ _ q _ (row_pos_prior hR hr q h), zero_at, ce_at hr _ q h _ (row_pos_prior hR hr q h)]
    rfl
  · rw [sel_at _ _ _ q False (iff_false_intro (row_pos_pad hR hr q h)), if_neg not_false, zero_at]

theorem n_row (hR : R.Good) (hr : Reads R pri locs box sc) : nPosV (F := Ideal) (posV (rowM pri box)) = R.nS := by
  unfold nPosV Row.nS
  refine sumV_at _ _ (fun q h => ?_) (fun q h => ?_)
  · rw [sel_at _ _ _ q _ (row_pos_prior hR hr q h), zero_at, one_at]
    rfl
  · rw [sel_at _ _ _ q False (iff_false_intro (row_pos_pad hR hr q h)), if_neg not_false, zero_at]

theorem neg_prior (hR : R.Good) (hr : Reads R pri locs box sc) (q : Fin 192 × Fin 128) (h : (nP q).val < NP) :
    negV sc (posV (rowM pri box)) (ix2 q.1 q.2) = R.neg ⟨(nP q).val, h⟩ := by
  rw [negV_at _ _ q _ (row_pos_prior hR hr q h), ce_at hr _ q h _ (row_pos_prior hR hr q h)]
  unfold Row.neg
  by_cases hp : R.pos ⟨(nP q).val, h⟩
  · rw [if_pos hp, if_neg (fun e => e.2 hp)]
  · rw [if_neg hp, if_pos ⟨h, hp⟩]
    rfl

theorem neg_pad (sc : Vec Ideal S1x2x192x128 .f32) (q : Fin 192 × Fin 128) (h : ¬ (nP q).val < NP) (pos : IVec S192x128 1) : negV sc pos (ix2 q.1 q.2) = 0 := by
  rw [negV_at sc pos q _ Iff.rfl, if_neg (fun e => h e.1)]

/-- The hard negatives' sum of a row is the one at the k-th largest loss rounded up to the grid. -/
theorem hard_row (hR : R.Good) (hr : Reads R pri locs box sc) (ng : Fin NP → ℝ) (hng : ∀ p, R.neg p = ng p) (K : ℝ) (hK : Search.IsKth ng (3 * R.nN) K) :
    one (hardV (negV sc (posV (rowM pri box))) (kV (posV (rowM pri box)))
      (searchHi (negV sc (posV (rowM pri box))) (kV (posV (rowM pri box))) (init0 (negV sc (posV (rowM pri box)))))) = R.hardK K := by
  rw [hard_at, searchHi_at, kV_at, n_row hR hr]
  exact Spec.hard_plane R hR nP _ (neg_prior hR hr) (fun q h => neg_pad sc q h _) ng hng K hK

end Cert.Proof

end
-- ==== Proof.KData.lean ====
/-
  The data of the kernel's rows over the extended reals: what the four rows of a block read, what the result's array
  holds after the run.
-/
module

public import Idealize.ShloMosaic.Lib.Pipeline.ValueKit
public import Idealize.ShloMosaic.Lib.StableHlo.ReadAt
public import proofs.«01_k».proof.Proof.Run
public import proofs.«01_k».proof.Proof.KSums

@[expose] public section

set_option maxRecDepth 16384

noncomputable section

namespace Cert.Proof

open Cert.KernelIdeal Cert.KernelIdeal.Gen
open Idealize.ShloMosaic Idealize.SL.Sem
open Idealize.ShloMosaic.TcCoe
open Cert.Proof.Spec (NP Row)
open scoped Classical

variable {R : Row} {pri locs : Vec Ideal S1x4x192x128 .f32} {box : Vec Ideal S1x16x4 .f32} {sc : Vec Ideal S1x2x192x128 .f32}

theorem one_broadcast (x : EReal) : one (broadcast S1x1 x) = x := rfl

/-- The four lanes a row leaves: the row's location sum, confidence sum, hard negatives' sum and number of positives. -/
theorem rowOut_lanes (hR : R.Good) (hr : Reads R pri locs box sc) (ng : Fin NP → ℝ) (hng : ∀ p, R.neg p = ng p) (K : ℝ) (hK : Search.IsKth ng (3 * R.nN) K) :
    rowOut pri box locs sc (ix3 0 0 0) = R.locS ∧ rowOut pri box locs sc (ix3 0 0 1) = R.confS
      ∧ rowOut pri box locs sc (ix3 0 0 2) = R.hardK K ∧ rowOut pri box locs sc (ix3 0 0 3) = R.nS := by
  unfold rowOut rowAt
  obtain ⟨a, b, c, d⟩ := lanes_at (broadcast S1x1 (locV pri locs (rowM pri box))) (broadcast S1x1 (confV sc (posV (rowM pri box))))
    (hardV (negV sc (posV (rowM pri box))) (kV (posV (rowM pri box)))
      (searchHi (negV sc (posV (rowM pri box))) (kV (posV (rowM pri box))) (init0 (negV sc (posV (rowM pri box))))))
    (broadcast S1x1 (nPosV (F := Ideal) (posV (rowM pri box))))
  refine ⟨?_, ?_, ?_, ?_⟩
  · rw [a, one_broadcast, loc_row hR hr]
  · rw [b, one_broadcast, conf_row hR hr]
  · rw [c, hard_row hR hr ng hng K hK]
  · rw [d, one_broadcast, n_row hR hr]

/-- Row `b` of a block of the result is the row's own lanes. -/
theorem blockOut_at (x0 : Vec Ideal S4x4x192x128 .f32) (x1 : Vec Ideal S4x2x192x128 .f32) (x2 : Vec Ideal S4x16x4 .f32) (x3 : Vec Ideal S1x4x192x128 .f32)
    (b : Fin 4) (l : Fin 128) : blockOut x0 x1 x2 x3 (ix3 b 0 l) = rowFrom x0 x1 x2 x3 b.val b.isLt (ix3 0 0 l) := by
  unfold blockOut
  generalize rowFrom x0 x1 x2 x3 = p
  have hb := b.isLt
  obtain ⟨b, hb'⟩ := b
  have key : ∀ (k : ℕ) (hk : k < 4) (x : S1x1x128.Idx), b = k → (x 2).val = l.val → p k hk x = p b hb' (ix3 0 0 l) := by
    intro k hk x e e2; subst e
    congr 1; funext a
    match a with
    | ⟨0, _⟩ => exact Fin.ext (by have := (x 0).isLt; simp at this ⊢)
    | ⟨1, _⟩ => exact Fin.ext (by have := (x 1).isLt; simp at this ⊢)
    | ⟨2, _⟩ => exact Fin.ext e2
  canon_tiles x h
  all_goals (refine key _ _ _ ?_ ?_ <;> simp_all <;> omega)

variable (m : (ℓ : Loc nD τ sig) → Buf (Elt Ideal) ℓ)

/-- The result's array after the run, at an index: its block's row's lane. -/
theorem arr_result (c : Dev nD) : (dats m 0 c).arrAt 4 cfg0.N
    = fun i : S32x1x128.Idx => blockAt m c ⟨(i 0).val / 4, by have := (i 0).isLt; simp at this; show _ < 8; omega⟩ (ix3 ⟨(i 0).val % 4, by omega⟩ 0 (i 2)) := by
  refine (dats m 0 c).arrAt_eq_of_covers 4 _ (by decide +kernel) fun t hf y => ?_
  blk_simp
  rw [dats_after4]
  have e0 : win0_4.index t 0 = t.val := (by decide +kernel : ∀ t : Fin cfg0.N, win0_4.index t 0 = t.val) t
  have y0 : (y 0).val < 4 := (y 0).isLt
  have y1 : (y 1).val < 1 := (y 1).isLt
  have e2 : (((win0_4.blk t).view.emb y 2 : Fin 128) : ℕ) = (y 2).val := by
    blk_simp
    have : win0_4.index t 2 = 0 := (by decide +kernel : ∀ t : Fin cfg0.N, win0_4.index t 2 = 0) t
    omega
  have ht : (⟨(win0_4.index t 0 * 4 + (y 0).val) / 4, by have := t.isLt; rw [e0]; show _ < 8; change t.val < 8 at this; omega⟩ : Fin cfg0.N) = t := Fin.ext (by show (win0_4.index t 0 * 4 + (y 0).val) / 4 = t.val; rw [e0]; omega)
  rw [ht]
  refine congrArg (blockAt m c t) (funext fun a => ?_)
  match a with
  | ⟨0, _⟩ => exact Fin.ext (show (y 0).val = (win0_4.index t 0 * 4 + (y 0).val) % 4 by rw [e0]; omega)
  | ⟨1, _⟩ => exact Fin.ext (show (y 1).val = 0 by omega)
  | ⟨2, _⟩ => exact Fin.ext e2.symm

end Cert.Proof

end
-- ==== Proof.KHost.lean ====
/-
  The host operations around the kernel, over the extended reals.
-/
module

public import Idealize.ShloMosaic.Lib.Pipeline.ValueKit
public import Idealize.ShloMosaic.Lib.StableHlo.ReadAt
public import proofs.«01_k».proof.Proof.Run

@[expose] public section

set_option maxRecDepth 16384

noncomputable section

namespace Cert.Proof

open Cert.KernelIdeal Cert.KernelIdeal.Gen
open Idealize.ShloMosaic Idealize.SL.Sem
open Idealize.ShloMosaic.TcCoe

variable (m : (ℓ : Loc nD τ sig) → Buf (Elt Ideal) ℓ) (c : Dev nD)

theorem pad_zero : (FloatOps.sitofp FTy.f32 (0#32 : BitVec 32) : Ideal .f32) = (0 : EReal) := by
  show ((((0#32 : BitVec 32).toInt : ℤ) : ℝ) : EReal) = 0
  simp

/-- The padded, transposed and reshaped location predictions. -/
theorem V_locs (B : Fin 32) (a : Fin 4) (r : Fin 192) (l : Fin 128) (h : r.val * 128 + l.val < 24564) :
    (V m c main_v2 : Vec Ideal S32x4x192x128 .f32) (ix4 B a r l) = (m (c.tc.loc main_arg0) : Vec Ideal S32x24564x4 .f32) (ix3 B ⟨r.val * 128 + l.val, h⟩ a) := by
  unfold V V0
  after_reads_at
  exact dif_pos h

/-- The padded, transposed and reshaped scores. -/
theorem V_scores (B : Fin 32) (a : Fin 2) (r : Fin 192) (l : Fin 128) (h : r.val * 128 + l.val < 24564) :
    (V m c main_v5 : Vec Ideal S32x2x192x128 .f32) (ix4 B a r l) = (m (c.tc.loc main_arg1) : Vec Ideal S32x24564x2 .f32) (ix3 B ⟨r.val * 128 + l.val, h⟩ a) := by
  unfold V V0
  after_reads_at
  exact dif_pos h

/-- The padded, transposed and reshaped priors. -/
theorem V_priors (a : Fin 4) (r : Fin 192) (l : Fin 128) (h : r.val * 128 + l.val < 24564) :
    (V m c main_v8 : Vec Ideal S1x4x192x128 .f32) (ix4 0 a r l) = (m (c.tc.loc main_arg3) : Vec Ideal S24564x4 .f32) (ix2 ⟨r.val * 128 + l.val, h⟩ a) := by
  unfold V V0
  after_reads_at
  exact dif_pos h

/-- The priors' pad is zero. -/
theorem V_pad (a : Fin 4) (r : Fin 192) (l : Fin 128) (h : ¬ r.val * 128 + l.val < 24564) :
    (V m c main_v8 : Vec Ideal S1x4x192x128 .f32) (ix4 0 a r l) = (0 : EReal) := by
  unfold V V0
  after_reads_at
  exact (dif_neg h).trans pad_zero

/-! ## The operations after the kernel -/

/-- The sum of lane `l` of the 32 rows. -/
def laneSum (G : Vec Ideal S32x1x128 .f32) (l : Fin 128) : EReal := ∑ b : Fin 32, G (ix3 b 0 l)

/-- The result of the program's last host operations, from the array the kernel leaves. -/
theorem tail_result (W : Valuation τ sig (Elt Ideal)) (G : Vec Ideal S32x1x128 .f32) (hG : W (Proc.devRef .tc main_v9) = G) (i : S_.Idx) :
    (StableHlo.after (hostOps1 (F := Ideal)) W (Proc.devRef .tc main_v27) : Vec Ideal S_ .f32) i
      = Ideal.div (laneSum G 2 + laneSum G 1) (laneSum G 3) + Ideal.div (laneSum G 0) (laneSum G 3 * Ideal.ofBits FTy.f32 1082130432#32) := by
  unfold laneSum
  subst hG
  after_reads_at

end Cert.Proof

end
-- ==== Proof.KBlk.lean ====
module

public import Idealize.ShloMosaic.Lib.Pipeline.ValueKit
public import proofs.«01_k».proof.Proof.Run

@[expose] public section

set_option maxRecDepth 16384

noncomputable section

namespace Cert.Proof

open Cert.KernelIdeal Cert.KernelIdeal.Gen
open Idealize.ShloMosaic Idealize.SL.Sem
open Idealize.ShloMosaic.TcCoe

variable (m : (ℓ : Loc nD τ sig) → Buf (Elt Ideal) ℓ) (c : Dev nD)

section blocks
variable (c : Dev nD) (t : Fin cfg0.N) (b : Fin 4)

/-- Row `b` of a block of the location predictions. -/
theorem blk_locs (a : Fin 4) (r : Fin 192) (l : Fin 128) (B : Fin 32) (hB : B.val = 4 * t.val + b.val) :
    (iblk m c 0 t : Vec Ideal S4x4x192x128 .f32) (ix4 b a r l) = (V m c main_v2 : Vec Ideal S32x4x192x128 .f32) (ix4 B a r l) := by
  unfold iblk
  generalize V m c = W
  show (W main_v2 : Vec Ideal S32x4x192x128 .f32) (((cfg0.win 0).blk t).view.emb (ix4 b a r l)) = _
  refine congrArg (W main_v2 : Vec Ideal S32x4x192x128 .f32) (funext fun k => Fin.ext ?_)
  have e : win0_0.index t = ![t.val, 0, 0, 0] := (by decide +kernel : ∀ t : Fin cfg0.N, win0_0.index t = ![t.val, 0, 0, 0]) t
  match k with
  | ⟨0, _⟩ => blk_simp [e]; omega
  | ⟨1, _⟩ => blk_simp [e]
  | ⟨2, _⟩ => blk_simp [e]
  | ⟨3, _⟩ => blk_simp [e]

/-- Row `b` of a block of the scores. -/
theorem blk_scores (a : Fin 2) (r : Fin 192) (l : Fin 128) (B : Fin 32) (hB : B.val = 4 * t.val + b.val) :
    (iblk m c 1 t : Vec Ideal S4x2x192x128 .f32) (ix4 b a r l) = (V m c main_v5 : Vec Ideal S32x2x192x128 .f32) (ix4 B a r l) := by
  unfold iblk
  generalize V m c = W
  show (W main_v5 : Vec Ideal S32x2x192x128 .f32) (((cfg0.win 1).blk t).view.emb (ix4 b a r l)) = _
  refine congrArg (W main_v5 : Vec Ideal S32x2x192x128 .f32) (funext fun k => Fin.ext ?_)
  have e : win0_1.index t = ![t.val, 0, 0, 0] := (by decide +kernel : ∀ t : Fin cfg0.N, win0_1.index t = ![t.val, 0, 0, 0]) t
  match k with
  | ⟨0, _⟩ => blk_simp [e]; omega
  | ⟨1, _⟩ => blk_simp [e]
  | ⟨2, _⟩ => blk_simp [e]
  | ⟨3, _⟩ => blk_simp [e]

/-- Row `b` of a block of the boxes. -/
theorem blk_boxes (a : Fin 16) (r : Fin 4) (B : Fin 32) (hB : B.val = 4 * t.val + b.val) :
    (iblk m c 2 t : Vec Ideal S4x16x4 .f32) (ix3 b a r) = (V m c main_arg2 : Vec Ideal S32x16x4 .f32) (ix3 B a r) := by
  unfold iblk
  generalize V m c = W
  show (W main_arg2 : Vec Ideal S32x16x4 .f32) (((cfg0.win 2).blk t).view.emb (ix3 b a r)) = _
  refine congrArg (W main_arg2 : Vec Ideal S32x16x4 .f32) (funext fun k => Fin.ext ?_)
  have e : win0_2.index t = ![t.val, 0, 0] := (by decide +kernel : ∀ t : Fin cfg0.N, win0_2.index t = ![t.val, 0, 0]) t
  match k with
  | ⟨0, _⟩ => blk_simp [e]; omega
  | ⟨1, _⟩ => blk_simp [e]
  | ⟨2, _⟩ => blk_simp [e]

/-- The block of the priors is the whole array. -/
theorem blk_priors (a : Fin 4) (r : Fin 192) (l : Fin 128) :
    (iblk m c 3 t : Vec Ideal S1x4x192x128 .f32) (ix4 0 a r l) = (V m c main_v8 : Vec Ideal S1x4x192x128 .f32) (ix4 0 a r l) := by
  unfold iblk
  generalize V m c = W
  show (W main_v8 : Vec Ideal S1x4x192x128 .f32) (((cfg0.win 3).blk t).view.emb (ix4 0 a r l)) = _
  refine congrArg (W main_v8 : Vec Ideal S1x4x192x128 .f32) (funext fun k => Fin.ext ?_)
  have e : win0_3.index t = ![0, 0, 0, 0] := (by decide +kernel : ∀ t : Fin cfg0.N, win0_3.index t = ![0, 0, 0, 0]) t
  match k with
  | ⟨0, _⟩ => blk_simp [e]
  | ⟨1, _⟩ => blk_simp [e]
  | ⟨2, _⟩ => blk_simp [e]
  | ⟨3, _⟩ => blk_simp [e]

end blocks

end Cert.Proof

end
-- ==== Proof.Rows.lean ====
/-
  The rows of the batch, and the loss as the rows' sums make it.
-/
module

public import proofs.«01_k».proof.Proof.Loss

@[expose] public section

noncomputable section

namespace Cert.Proof.Spec

open Idealize.ShloMosaic

/-- Row `b` of the batch, from the location predictions, the scores, the boxes and the priors. -/
def rowOf (lc : Fin 32 → Fin NP → Fin 4 → EReal) (sc : Fin 32 → Fin NP → Fin 2 → EReal) (bx : Fin 32 → Fin 16 → Fin 4 → EReal)
    (pr : Fin NP → Fin 4 → EReal) (b : Fin 32) : Row where
  pr := pr
  bx := bx b
  lc := lc b
  sc := sc b

/-- The loss of a batch of rows, `K b` the row's k-th largest loss: the confidence losses over the number of positives,
    and the location losses over four times that number. -/
def lossOf (Rs : Fin 32 → Row) (K : Fin 32 → ℝ) : EReal :=
  Ideal.div ((∑ b, (Rs b).hardK (K b)) + ∑ b, (Rs b).confS) (∑ b, (Rs b).nS)
    + Ideal.div (∑ b, (Rs b).locS) ((∑ b, (Rs b).nS) * Ideal.ofBits FTy.f32 1082130432#32)

end Cert.Proof.Spec

end
-- ==== Proof.KFinal.lean ====
/-
  The value of the program over the extended reals: the loss of the batch's rows.
-/
module

public import proofs.«01_k».proof.Proof.KData
public import proofs.«01_k».proof.Proof.KHost
public import proofs.«01_k».proof.Proof.KBlk
public import proofs.«01_k».proof.Proof.Rows

@[expose] public section

noncomputable section

namespace Cert.Proof

open Cert.KernelIdeal Cert.KernelIdeal.Gen
open Idealize.ShloMosaic Idealize.SL.Sem
open Idealize.ShloMosaic.TcCoe
open Cert.Proof.Spec (NP Row)
open scoped Classical

section loads
variable (x0 : Vec Ideal S4x4x192x128 .f32) (x1 : Vec Ideal S4x2x192x128 .f32) (x2 : Vec Ideal S4x16x4 .f32) (x3 : Vec Ideal S1x4x192x128 .f32) (b : Fin 4)

theorem ld_locs (a : Fin 4) (r : Fin 192) (l : Fin 128) :
    View.ld (Val := Elt Ideal) (e' := .f32) x0 (Rect.unit (s := S4x4x192x128) ![b.val, 0, 0, 0] S1x4x192x128.size (inbLoc b.val b.isLt)) (ix4 0 a r l : S1x4x192x128.Idx) = x0 (ix4 b a r l) := by
  refine congrArg x0 (funext fun k => Fin.ext ?_)
  match k with
  | ⟨0, _⟩ => simp [Rect.idx_unit_val]
  | ⟨1, _⟩ => simp [Rect.idx_unit_val]
  | ⟨2, _⟩ => simp [Rect.idx_unit_val]
  | ⟨3, _⟩ => simp [Rect.idx_unit_val]

theorem ld_scores (a : Fin 2) (r : Fin 192) (l : Fin 128) :
    View.ld (Val := Elt Ideal) (e' := .f32) x1 (Rect.unit (s := S4x2x192x128) ![b.val, 0, 0, 0] S1x2x192x128.size (inbSc b.val b.isLt)) (ix4 0 a r l : S1x2x192x128.Idx) = x1 (ix4 b a r l) := by
  refine congrArg x1 (funext fun k => Fin.ext ?_)
  match k with
  | ⟨0, _⟩ => simp [Rect.idx_unit_val]
  | ⟨1, _⟩ => simp [Rect.idx_unit_val]
  | ⟨2, _⟩ => simp [Rect.idx_unit_val]
  | ⟨3, _⟩ => simp [Rect.idx_unit_val]

theorem ld_boxes (j : Fin 16) (k : Fin 4) :
    View.ld (Val := Elt Ideal) (e' := .f32) x2 (Rect.unit (s := S4x16x4) ![b.val, 0, 0] S1x16x4.size (inbBox b.val b.isLt)) (ix3 0 j k : S1x16x4.Idx) = x2 (ix3 b j k) := by
  refine congrArg x2 (funext fun k => Fin.ext ?_)
  match k with
  | ⟨0, _⟩ => simp [Rect.idx_unit_val]
  | ⟨1, _⟩ => simp [Rect.idx_unit_val]
  | ⟨2, _⟩ => simp [Rect.idx_unit_val]

theorem ld_priors (a : Fin 4) (r : Fin 192) (l : Fin 128) :
    View.ld (Val := Elt Ideal) (e' := .f32) x3 (Rect.unit (s := S1x4x192x128) ![0, 0, 0, 0] S1x4x192x128.size inb_S1x4x192x128_S1x4x192x128_0_0_0_0) (ix4 0 a r l : S1x4x192x128.Idx) = x3 (ix4 0 a r l) := by
  refine congrArg x3 (funext fun k => Fin.ext ?_)
  match k with
  | ⟨0, _⟩ => simp [Rect.idx_unit_val]
  | ⟨1, _⟩ => simp [Rect.idx_unit_val]
  | ⟨2, _⟩ => simp [Rect.idx_unit_val]
  | ⟨3, _⟩ => simp [Rect.idx_unit_val]

end loads

variable (m : (ℓ : Loc nD τ sig) → Buf (Elt Ideal) ℓ) (c : Dev nD)

/-- The rows of the batch as the program's memory holds them. -/
def rowsK : Fin 32 → Row :=
  Spec.rowOf (fun b p k => (m (c.tc.loc main_arg0) : Vec Ideal S32x24564x4 .f32) (ix3 b p k)) (fun b p k => (m (c.tc.loc main_arg1) : Vec Ideal S32x24564x2 .f32) (ix3 b p k))
    (fun b j k => (m (c.tc.loc main_arg2) : Vec Ideal S32x16x4 .f32) (ix3 b j k)) (fun p k => (m (c.tc.loc main_arg3) : Vec Ideal S24564x4 .f32) (ix2 p k))

/-- Row `b` of point `t`'s blocks reads row `4 t + b` of the batch. -/
theorem reads_row (t : Fin cfg0.N) (b : Fin 4) (B : Fin 32) (hB : B.val = 4 * t.val + b.val) :
    Reads (rowsK m c B)
      (View.ld (iblk m c 3 t : Vec Ideal S1x4x192x128 .f32) (Rect.unit (s := S1x4x192x128) ![0, 0, 0, 0] S1x4x192x128.size inb_S1x4x192x128_S1x4x192x128_0_0_0_0))
      (View.ld (iblk m c 0 t : Vec Ideal S4x4x192x128 .f32) (Rect.unit (s := S4x4x192x128) ![b.val, 0, 0, 0] S1x4x192x128.size (inbLoc b.val b.isLt)))
      (View.ld (iblk m c 2 t : Vec Ideal S4x16x4 .f32) (Rect.unit (s := S4x16x4) ![b.val, 0, 0] S1x16x4.size (inbBox b.val b.isLt)))
      (View.ld (iblk m c 1 t : Vec Ideal S4x2x192x128 .f32) (Rect.unit (s := S4x2x192x128) ![b.val, 0, 0, 0] S1x2x192x128.size (inbSc b.val b.isLt))) where
  priE q h k := by
    have h' : q.1.val * 128 + q.2.val < 24564 := by rw [nP_val] at h; have : NP = 24564 := rfl; omega
    rw [ld_priors, blk_priors, V_priors m c k q.1 q.2 h']
    exact congrArg (fun p => (m (c.tc.loc main_arg3) : Vec Ideal S24564x4 .f32) (ix2 p k)) (Fin.ext (by rw [nP_val]; show q.1.val * 128 + q.2.val = q.2.val + 128 * q.1.val; omega))
  padE q h k := by
    have h' : ¬ q.1.val * 128 + q.2.val < 24564 := by rw [nP_val] at h; have : NP = 24564 := rfl; omega
    rw [ld_priors, blk_priors, V_pad m c k q.1 q.2 h']
  boxE j k := by
    rw [ld_boxes, blk_boxes m c t b j k B hB, V_main_arg2]
    rfl
  locsE q h k := by
    have h' : q.1.val * 128 + q.2.val < 24564 := by rw [nP_val] at h; have : NP = 24564 := rfl; omega
    rw [ld_locs, blk_locs m c t b k q.1 q.2 B hB, V_locs m c B k q.1 q.2 h']
    exact congrArg (fun p => (m (c.tc.loc main_arg0) : Vec Ideal S32x24564x4 .f32) (ix3 B p k)) (Fin.ext (by rw [nP_val]; show q.1.val * 128 + q.2.val = q.2.val + 128 * q.1.val; omega))
  scE q h k := by
    have h' : q.1.val * 128 + q.2.val < 24564 := by rw [nP_val] at h; have : NP = 24564 := rfl; omega
    rw [ld_scores, blk_scores m c t b k q.1 q.2 B hB, V_scores m c B k q.1 q.2 h']
    exact congrArg (fun p => (m (c.tc.loc main_arg1) : Vec Ideal S32x24564x2 .f32) (ix3 B p k)) (Fin.ext (by rw [nP_val]; show q.1.val * 128 + q.2.val = q.2.val + 128 * q.1.val; omega))

/-- The kernel's result array. -/
def resK : Vec Ideal S32x1x128 .f32 :=
  fun i => blockAt m c ⟨(i 0).val / 4, by have := (i 0).isLt; simp at this; show _ < 8; omega⟩ (ix3 ⟨(i 0).val % 4, by omega⟩ 0 (i 2))

/-- What `K` is asked to be: a row's k-th largest loss, `k` three times the number of positives. -/
def KthOf (R : Row) (K : ℝ) : Prop := ∀ ng : Fin NP → ℝ, (∀ p, R.neg p = ng p) → Search.IsKth ng (3 * R.nN) K

/-- The four lanes of the result's row `B`. -/
theorem resK_lanes (B : Fin 32) (hR : (rowsK m c B).Good) (K : ℝ) (hK : KthOf (rowsK m c B) K) :
    resK m c (ix3 B 0 0) = (rowsK m c B).locS ∧ resK m c (ix3 B 0 1) = (rowsK m c B).confS
      ∧ resK m c (ix3 B 0 2) = (rowsK m c B).hardK K ∧ resK m c (ix3 B 0 3) = (rowsK m c B).nS := by
  have hB := B.isLt
  obtain ⟨ng, -, hng⟩ := Spec.Row.neg_real _ hR
  have e : ∀ l : Fin 128, resK m c (ix3 B 0 l) = blockAt m c ⟨B.val / 4, by show _ < 8; omega⟩ (ix3 ⟨B.val % 4, by omega⟩ 0 l) := fun _ => rfl
  rw [e, e, e, e]
  unfold blockAt
  rw [blockOut_at, blockOut_at, blockOut_at, blockOut_at]
  unfold rowFrom
  exact rowOut_lanes hR (reads_row m c ⟨B.val / 4, by show _ < 8; omega⟩ ⟨B.val % 4, by omega⟩ B (by show B.val = 4 * (B.val / 4) + B.val % 4; omega)) ng hng K (hK ng hng)

variable (ρ : Dev nD → PrngReg)

/-- The program ends with the loss of the batch's rows in its result, its arguments as they began. -/
theorem run_value (hR : ∀ c b, (rowsK m c b).Good) (K : Dev nD → Fin 32 → ℝ) (hK : ∀ c b, KthOf (rowsK m c b) (K c b)) :
    θ_run defs (onTc (τ := τ) (main (F := Ideal))) ⟨m, fun _ => 0, ρ⟩ (fun r => ∀ c : Dev nD,
      r.2.mem ((c.tc : Thread nD τ).loc main_v27) = (fun _ : S_.Idx => Spec.lossOf (rowsK m c) (K c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ⟨?_, ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans (V_main_arg2 m c)),
      ((h c).2 main_arg3 (Pipeline.mem_restRefs_of main_arg3 (by decide) (by decide))).trans (W_main_arg3 m (dats m) c)⟩)
    ((θ_run defs _ _).mono (fun _ h => h.1) (run_main m ρ))
  rw [(h c).2 main_v27 (Pipeline.mem_restRefs_of main_v27 (by decide) (by decide))]
  unfold Pipeline.afterTail₀
  refine funext fun i => ?_
  have e4 : Pipeline.withArrays spec0 c (V0 m c) (fun w => (dats m 0 c).arrAt w cfg0.N) (Proc.devRef .tc main_v9) = resK m c :=
    (Pipeline.withArrays_arr spec0 (by decide) c (V0 m c) (fun w => (dats m 0 c).arrAt w cfg0.N) 4).trans (arr_result m c)
  refine (tail_result _ (resK m c) e4 i).trans ?_
  have l := fun b => resK_lanes m c b (hR c b) (K c b) (hK c b)
  unfold laneSum Spec.lossOf
  rw [Finset.sum_congr rfl fun b _ => (l b).1, Finset.sum_congr rfl fun b _ => (l b).2.1, Finset.sum_congr rfl fun b _ => (l b).2.2.1, Finset.sum_congr rfl fun b _ => (l b).2.2.2]

end Cert.Proof

end
-- ==== Proof.RMatch.lean ====
/-
  The reference's matching over the extended reals: overlaps, best objects, best priors, the positives.
-/
module

public import Idealize.ShloMosaic.Lib.Pointwise
public import Idealize.ShloMosaic.Lib.StableHlo.ReadAt
public import proofs.«01_k».proof.Proof.Gen.ReferenceIdeal.Read
public import proofs.«01_k».proof.Proof.Words
public import proofs.«01_k».proof.Proof.Rows

@[expose] public section

noncomputable section

namespace Cert.Proof.Ref

open Cert.ReferenceIdeal Cert.ReferenceIdeal.Gen Cert.ReferenceIdeal.Read
open Idealize.ShloMosaic Idealize.SL.Sem
open Cert.Proof.Spec (NP Row thr firstMax firstMax_spec firstMax_eq matchOf matchOf_eq posOf)
open scoped Classical

/-- The least index at which a function is greatest, as the program's words find it. -/
theorem argmax_word {P : ℕ} [NeZero P] (hP : P < 2147483648) (f : Fin P → EReal) (b : BitVec 32) (hb : (P : ℤ) ≤ b.toInt)
    (g : Fin P → BitVec 32) (hg : ∀ j, g j = if f j = Finset.univ.fold max ⊥ f then BitVec.ofNat 32 j.val else BitVec.ofNat 32 P) :
    Finset.univ.fold IntOp.minsi b g = BitVec.ofNat 32 (firstMax f).val := by
  have hm := firstMax_spec f
  set w := firstMax f
  have hmax : Finset.univ.fold max ⊥ f = f w := Spec.fold_max _ f w (Finset.mem_univ _) fun q _ => hm.1 q
  rw [hmax] at hg
  obtain ⟨h1, h2, h3⟩ := Spec.fold_minsi Finset.univ g b
  have hw := w.isLt
  have gw : g w = BitVec.ofNat 32 w.val := by rw [hg, if_pos rfl]
  have hle := h2 w (Finset.mem_univ _)
  rw [gw, Spec.toInt_ofNat (by omega)] at hle
  rcases h3 with h3 | ⟨i, -, h3⟩
  · rw [h3] at hle; omega
  · by_cases hi : f i = f w
    · have gi : g i = BitVec.ofNat 32 i.val := by rw [hg, if_pos hi]
      have hil := i.isLt
      rw [h3, gi]
      rw [h3, gi, Spec.toInt_ofNat (by omega)] at hle
      rcases lt_or_ge i w with h | h
      · exact absurd (hm.2 i h) (by rw [hi]; exact lt_irrefl _)
      · have : i.val = w.val := by have := Fin.le_def.1 h; omega
        rw [this]
    · have gi : g i = BitVec.ofNat 32 P := by rw [hg, if_neg hi]
      rw [h3, gi, Spec.toInt_ofNat hP] at hle
      omega

/-- The last object whose best prior a place is, as the program's words find it: below zero if there is none. -/
theorem taken_word (t : Fin 16 → Prop) [DecidablePred t] (b : BitVec 32) (hb : b.toInt < 0) (g : Fin 16 → BitVec 32)
    (hg : ∀ j, g j = if t j then BitVec.ofNat 32 j.val else (-1 : BitVec 32)) :
    ((∃ j, t j) → ∃ w, t w ∧ (∀ j, w < j → ¬ t j) ∧ Finset.univ.fold IntOp.maxsi b g = BitVec.ofNat 32 w.val)
      ∧ ((¬ ∃ j, t j) → (Finset.univ.fold IntOp.maxsi b g).toInt < 0) := by
  obtain ⟨h1, h2, h3⟩ := Spec.fold_maxsi Finset.univ g b
  have hn : ((-1 : BitVec 32)).toInt < 0 := by decide
  refine ⟨fun ⟨j, hj⟩ => ?_, fun hno => ?_⟩
  · have hjl := j.isLt
    have hle := h2 j (Finset.mem_univ _)
    rw [hg j, if_pos hj, Spec.toInt_ofNat (by omega)] at hle
    rcases h3 with h3 | ⟨i, -, h3⟩
    · rw [h3] at hle; omega
    · by_cases hi : t i
      · have gi : g i = BitVec.ofNat 32 i.val := by rw [hg, if_pos hi]
        have hil := i.isLt
        refine ⟨i, hi, fun k hk htk => ?_, by rw [h3, gi]⟩
        have hkl := k.isLt
        have := h2 k (Finset.mem_univ _)
        rw [h3, gi, hg k, if_pos htk, Spec.toInt_ofNat (by omega), Spec.toInt_ofNat (by omega)] at this
        have := Fin.lt_def.1 hk
        omega
      · rw [h3, hg i, if_neg hi] at hle; omega
  · rcases h3 with h3 | ⟨i, -, h3⟩
    · rw [h3]; exact hb
    · rw [h3, hg i, if_neg fun h => hno ⟨i, h⟩]; exact hn

theorem not_one (c : BitVec 1) : ~~~c = 1#1 ↔ ¬ c = 1#1 := by revert c; decide

/-! ## The stages -/

variable (x0 : (⟨S32x24564x4, .f32⟩ : BufTy).Contents (Elt Ideal)) (x1 : (⟨S32x24564x2, .f32⟩ : BufTy).Contents (Elt Ideal))
  (x2 : (⟨S32x16x4, .f32⟩ : BufTy).Contents (Elt Ideal)) (x3 : (⟨S24564x4, .f32⟩ : BufTy).Contents (Elt Ideal))

/-- The rows of the batch as the reference reads them. -/
def rowsR : Fin 32 → Row := Spec.rowOf (fun b p k => x0 (ix3 b p k)) (fun b p k => x1 (ix3 b p k)) (fun b j k => x2 (ix3 b j k)) (fun p k => x3 (ix2 p k))

/-- A side of the boxes' intersection. -/
theorem side0_at (b : Fin 32) (j : Fin 16) (p : Fin 24564) : val_main_v44 (F := Ideal) x2 x3 (ix3 b j p)
    = Spec.side (x2 (ix3 b j 0)) (x2 (ix3 b j 2)) (x3 (ix2 p 0)) (x3 (ix2 p 2)) := by
  simp only [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_cst, val_main_cst_0, val_main_cst_1, val_main_cst_2, val_main_cst_3]
  clean_types
  pointwise
  rw [Spec.c_two]
  exact max_comm _ _

/-- The other side. -/
theorem side1_at (b : Fin 32) (j : Fin 16) (p : Fin 24564) : val_main_v53 (F := Ideal) x2 x3 (ix3 b j p)
    = Spec.side (x2 (ix3 b j 1)) (x2 (ix3 b j 3)) (x3 (ix2 p 1)) (x3 (ix2 p 3)) := by
  simp only [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v45, val_main_v46, val_main_v47, val_main_v48, val_main_v49, val_main_v50, val_main_v51, val_main_v52, val_main_v53, val_main_cst, val_main_cst_0, val_main_cst_1, val_main_cst_2, val_main_cst_4]
  clean_types
  pointwise
  rw [Spec.c_two]
  exact max_comm _ _

/-- The overlaps. -/
theorem overlap_at (b : Fin 32) (j : Fin 16) (p : Fin 24564) : val_main_v65 (F := Ideal) x2 x3 (ix3 b j p) = (rowsR x0 x1 x2 x3 b).ov j p := by
  have h0 := side0_at x2 x3 b j p
  have h1 := side1_at x2 x3 b j p
  rw [val_main_v65_apply, val_main_v64_apply, val_main_v54_apply, h0, h1, val_main_v63_apply]
  have e61 : val_main_v61 (F := Ideal) x2 (ix3 b j p) = (x2 (ix3 b j 2) - x2 (ix3 b j 0) : EReal) * (x2 (ix3 b j 3) - x2 (ix3 b j 1) : EReal) := by
    simp only [val_main_v61, val_main_v55, val_main_v56, val_main_v57, val_main_v24, val_main_v25, val_main_v26, val_main_v27, val_main_v28, val_main_v29, val_main_v30, val_main_v31, val_main_v32, val_main_v33, val_main_v34, val_main_v35, val_main_v36]
    clean_types
    pointwise
  have e62 : val_main_v62 (F := Ideal) x3 (ix3 b j p)
      = ((x3 (ix2 p 0) + Ideal.div (x3 (ix2 p 2)) (2 : ℝ)) - (x3 (ix2 p 0) - Ideal.div (x3 (ix2 p 2)) (2 : ℝ)) : EReal)
        * ((x3 (ix2 p 1) + Ideal.div (x3 (ix2 p 3)) (2 : ℝ)) - (x3 (ix2 p 1) - Ideal.div (x3 (ix2 p 3)) (2 : ℝ)) : EReal) := by
    simp only [val_main_v62, val_main_v58, val_main_v59, val_main_v60, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2]
    clean_types
    pointwise
    rw [Spec.c_two]
  rw [e61, e62]
  rfl

/-! ## The reductions -/

/-- A prior's greatest overlap, and an object's. -/
theorem most_at (b : Fin 32) (p : Fin 24564) : val_main_v66 (F := Ideal) x2 x3 (ix2 b p) = Finset.univ.fold max ⊥ fun j => (rowsR x0 x1 x2 x3 b).ov j p := by
  have h := overlap_at x0 x1 x2 x3 b
  unfold val_main_v66 val_main_cst_5
  generalize val_main_v65 (F := Ideal) x2 x3 = v at h ⊢
  clean_types
  pointwise
  simp only [h, Spec.c_bot]

theorem most'_at (b : Fin 32) (p : Fin 24564) : val_main_v67 (F := Ideal) x2 x3 (ix2 b p) = Finset.univ.fold max ⊥ fun j => (rowsR x0 x1 x2 x3 b).ov j p :=
  most_at x0 x1 x2 x3 b p

theorem reach_at (b : Fin 32) (j : Fin 16) : val_main_v74 (F := Ideal) x2 x3 (ix2 b j) = Finset.univ.fold max ⊥ fun p => (rowsR x0 x1 x2 x3 b).ov j p := by
  have h := overlap_at x0 x1 x2 x3 b
  unfold val_main_v74 val_main_cst_8
  generalize val_main_v65 (F := Ideal) x2 x3 = v at h ⊢
  clean_types
  pointwise
  simp only [h, Spec.c_bot]

/-- A prior's best object. -/
theorem bestObj_at (b : Fin 32) (p : Fin 24564) : val_main_v73 (F := Ideal) x2 x3 (ix2 b p)
    = BitVec.ofNat 32 (firstMax fun j => (rowsR x0 x1 x2 x3 b).ov j p).val := by
  have h := overlap_at x0 x1 x2 x3 b
  have h7 := most'_at x0 x1 x2 x3 b p
  simp only [val_main_v73, val_main_v72, val_main_v70, val_main_v71, val_main_v69, val_main_v68, val_main_call0_v1, val_main_call0_v0, val_main_c, val_main_c_7]
  generalize val_main_v65 (F := Ideal) x2 x3 = v at h ⊢
  generalize val_main_v67 (F := Ideal) x2 x3 = u at h7 ⊢
  clean_types
  pointwise
  refine argmax_word (by decide) _ _ (by decide) _ fun j => ?_
  rw [h, h7]
  rfl

/-- An object's best prior. -/
theorem bestPrior_at (b : Fin 32) (j : Fin 16) : val_main_v80 (F := Ideal) x2 x3 (ix2 b j) = BitVec.ofNat 32 ((rowsR x0 x1 x2 x3 b).best j).val := by
  have h := overlap_at x0 x1 x2 x3 b
  have h7 := reach_at x0 x1 x2 x3 b j
  simp only [val_main_v80, val_main_v79, val_main_v78, val_main_v77, val_main_v76, val_main_v75, val_main_call1_v1, val_main_call1_v0, val_main_c_9, val_main_c_10]
  generalize val_main_v65 (F := Ideal) x2 x3 = v at h ⊢
  generalize val_main_v74 (F := Ideal) x2 x3 = u at h7 ⊢
  clean_types
  pointwise
  refine argmax_word (by decide) _ _ (by decide) _ fun j => ?_
  rw [h, h7]
  rfl

/-- The last object that takes the prior. -/
theorem takenBy_at (b : Fin 32) (p : Fin 24564) : ∃ (g : Fin 16 → BitVec 32) (i : BitVec 32), val_main_v87 (F := Ideal) x2 x3 (ix2 b p) = Finset.univ.fold IntOp.maxsi i g
    ∧ i.toInt < 0 ∧ ∀ j, g j = if (rowsR x0 x1 x2 x3 b).best j = p then BitVec.ofNat 32 j.val else (-1 : BitVec 32) := by
  have h := bestPrior_at x0 x1 x2 x3 b
  simp only [val_main_v87, val_main_v86, val_main_v85, val_main_v84, val_main_v83, val_main_v82, val_main_v81, val_main_call2_v1, val_main_call2_v0, val_main_c_11, val_main_c_12]
  generalize val_main_v80 (F := Ideal) x2 x3 = u at h ⊢
  clean_types
  pointwise
  refine ⟨_, _, rfl, by decide, fun j => ?_⟩
  have hj := ((rowsR x0 x1 x2 x3 b).best j).isLt
  have hp := p.isLt
  have hN : NP = 24564 := rfl
  refine Spec.sel_bit ((Spec.bit_cmpi_eq _ _).trans ?_) _ _
  rw [h, Spec.ofNat_inj (by omega) (by omega), Fin.ext_iff]

/-- The object a prior is matched to, and whether an object takes it. -/
theorem match_pos (b : Fin 32) (p : Fin 24564) :
    val_main_v90 (F := Ideal) x2 x3 (ix2 b p) = BitVec.ofNat 32 ((rowsR x0 x1 x2 x3 b).mt p).val
      ∧ (val_main_v94 (F := Ideal) x2 x3 (ix2 b p) = 1#1 ↔ (rowsR x0 x1 x2 x3 b).pos p) := by
  obtain ⟨g, i, e, hi, hg⟩ := takenBy_at x0 x1 x2 x3 b p
  have h73 := bestObj_at x0 x1 x2 x3 b p
  have h66 := most_at x0 x1 x2 x3 b p
  have ht := taken_word (fun j => (rowsR x0 x1 x2 x3 b).best j = p) i hi g hg
  rw [← e] at ht
  have h89 : val_main_v89 (F := Ideal) x2 x3 (ix2 b p) = 1#1 ↔ 0 ≤ (val_main_v87 (F := Ideal) x2 x3 (ix2 b p)).toInt := by
    rw [val_main_v89_apply, Spec.bit_cmpi_sge]
    have e0 : val_main_v88 (F := Ideal) (ix2 b p) = 0#32 := by
      simp only [val_main_v88, val_main_c_13]
      clean_types
      pointwise
    rw [e0]
    rfl
  have h93 : val_main_v94 (F := Ideal) x2 x3 (ix2 b p) = 1#1 ↔ ¬ (val_main_v91 (F := Ideal) x2 x3 (ix2 b p) : EReal) < thr := by
    have e0 : val_main_v92 (F := Ideal) (ix2 b p) = thr := by
      simp only [val_main_v92, val_main_cst_15]
      clean_types
      pointwise
      rfl
    rw [val_main_v94_apply, val_main_v93_apply, e0]
    generalize val_main_v91 (F := Ideal) x2 x3 (ix2 b p) = u
    exact (not_one _).trans (not_congr (Spec.bit_olt u thr))
  have e1 : val_main_call4_v1 (F := Ideal) (ix2 b p) = (1 : EReal) := by
    simp only [val_main_call4_v1, val_main_call4_v0, val_main_cst_14]
    clean_types
    pointwise
    exact Spec.c_one
  rw [h93, val_main_v90_apply, val_main_v91_apply, Spec.sel_bit h89, Spec.sel_bit h89, h73, h66, e1]
  generalize val_main_v87 (F := Ideal) x2 x3 (ix2 b p) = v at ht
  unfold Row.mt Row.pos posOf
  by_cases hj : ∃ j, (rowsR x0 x1 x2 x3 b).best j = p
  · obtain ⟨w, hw, hl, e⟩ := ht.1 hj
    have hwl := w.isLt
    have hv : 0 ≤ v.toInt := by rw [e, Spec.toInt_ofNat (by omega)]; omega
    rw [if_pos hv, if_pos hv, e, matchOf_eq (.inl ⟨hw, hl⟩)]
    refine ⟨rfl, iff_of_true ?_ (.inl hj)⟩
    rw [Spec.thr_eq, not_lt]
    rw [← EReal.coe_one, EReal.coe_le_coe_iff]; norm_num
  · have hv : ¬ 0 ≤ v.toInt := not_le.2 (ht.2 hj)
    have hm := firstMax_spec fun j => (rowsR x0 x1 x2 x3 b).ov j p
    rw [if_neg hv, if_neg hv, matchOf_eq (.inr ⟨fun j h => hj ⟨j, h⟩, hm⟩), Spec.fold_max _ _ _ (Finset.mem_univ _) fun q _ => hm.1 q, not_lt]
    exact ⟨rfl, ⟨.inr, fun h => h.resolve_left hj⟩⟩

/-- One at the positives, zero elsewhere. -/
theorem posF_at (b : Fin 32) (p : Fin 24564) : val_main_v95 (F := Ideal) x2 x3 (ix2 b p) = (rowsR x0 x1 x2 x3 b).pf p := by
  have h := (match_pos x0 x1 x2 x3 b p).2
  rw [val_main_v95_apply]
  generalize val_main_v94 (F := Ideal) x2 x3 (ix2 b p) = c at h
  unfold Row.pf
  by_cases hc : c = 1#1
  · rw [if_pos (h.1 hc), hc]
    show (((1 : ℕ) : ℝ) : EReal) = 1
    simp
  · rw [if_neg fun hp => hc (h.2 hp), Spec.one_or_zero c hc]
    show (((0 : ℕ) : ℝ) : EReal) = 0
    simp

end Cert.Proof.Ref

end
-- ==== Proof.RLoc.lean ====
/-
  The reference's location loss over the extended reals.
-/
module

public import Idealize.ShloMosaic.Lib.Pointwise
public import Idealize.ShloMosaic.Lib.StableHlo.ReadAt
public import proofs.«01_k».proof.Proof.RMatch

@[expose] public section

noncomputable section

namespace Cert.Proof.Ref

open Cert.ReferenceIdeal Cert.ReferenceIdeal.Gen Cert.ReferenceIdeal.Read
open Idealize.ShloMosaic Idealize.SL.Sem
open Cert.Proof.Spec (NP Row)
open scoped Classical

variable (x0 : (⟨S32x24564x4, .f32⟩ : BufTy).Contents (Elt Ideal)) (x1 : (⟨S32x24564x2, .f32⟩ : BufTy).Contents (Elt Ideal))
  (x2 : (⟨S32x16x4, .f32⟩ : BufTy).Contents (Elt Ideal)) (x3 : (⟨S24564x4, .f32⟩ : BufTy).Contents (Elt Ideal))

/-- A sum over the objects that keeps one of them. -/
theorem one_hot (w : Fin 16) (g : Fin 16 → BitVec 1) (hg : ∀ j, g j = 1#1 ↔ BitVec.ofNat 32 w.val = BitVec.ofNat 32 j.val) (f : Fin 16 → EReal) (z : EReal) (hz : z = 0) :
    ∑ j, Scalar.select (g j) (f j) z = f w := by
  have hw := w.isLt
  rw [Finset.sum_eq_single w]
  · rw [Spec.sel_bit (hg w), if_pos rfl]
  · intro j _ hj
    have hjl := j.isLt
    rw [Spec.sel_bit (hg j), if_neg, hz]
    rw [Spec.ofNat_inj (by omega) (by omega)]
    exact fun e => hj (Fin.ext e.symm)
  · exact fun h => absurd (Finset.mem_univ _) h

/-! The coordinates of the box a prior is matched to. -/

theorem coord0_at (b : Fin 32) (p : Fin 24564) : val_main_v104 (F := Ideal) x2 x3 (ix2 b p) = (rowsR x0 x1 x2 x3 b).bx ((rowsR x0 x1 x2 x3 b).mt p) 0 := by
  have h := (match_pos x0 x1 x2 x3 b p).1
  simp only [val_main_v104, val_main_v103, val_main_v102, val_main_v101, val_main_v100, val_main_v99, val_main_v98, val_main_v97, val_main_v81, val_main_call5_v0, val_main_call5_v1, val_main_call5_v2, val_main_cst_17, val_main_cst_18]
  generalize val_main_v90 (F := Ideal) x2 x3 = u at h ⊢
  clean_types
  pointwise
  exact one_hot _ _ (fun j => (Spec.bit_cmpi_eq _ _).trans (by rw [h])) _ _ Spec.c_zero

theorem coord1_at (b : Fin 32) (p : Fin 24564) : val_main_v112 (F := Ideal) x2 x3 (ix2 b p) = (rowsR x0 x1 x2 x3 b).bx ((rowsR x0 x1 x2 x3 b).mt p) 1 := by
  have h := (match_pos x0 x1 x2 x3 b p).1
  simp only [val_main_v112, val_main_v111, val_main_v110, val_main_v109, val_main_v108, val_main_v107, val_main_v106, val_main_v105, val_main_v81, val_main_call6_v0, val_main_call6_v1, val_main_call6_v2, val_main_cst_19, val_main_cst_20]
  generalize val_main_v90 (F := Ideal) x2 x3 = u at h ⊢
  clean_types
  pointwise
  exact one_hot _ _ (fun j => (Spec.bit_cmpi_eq _ _).trans (by rw [h])) _ _ Spec.c_zero

theorem coord2_at (b : Fin 32) (p : Fin 24564) : val_main_v120 (F := Ideal) x2 x3 (ix2 b p) = (rowsR x0 x1 x2 x3 b).bx ((rowsR x0 x1 x2 x3 b).mt p) 2 := by
  have h := (match_pos x0 x1 x2 x3 b p).1
  simp only [val_main_v120, val_main_v119, val_main_v118, val_main_v117, val_main_v116, val_main_v115, val_main_v114, val_main_v113, val_main_v81, val_main_call7_v0, val_main_call7_v1, val_main_call7_v2, val_main_cst_21, val_main_cst_22]
  generalize val_main_v90 (F := Ideal) x2 x3 = u at h ⊢
  clean_types
  pointwise
  exact one_hot _ _ (fun j => (Spec.bit_cmpi_eq _ _).trans (by rw [h])) _ _ Spec.c_zero

theorem coord3_at (b : Fin 32) (p : Fin 24564) : val_main_v128 (F := Ideal) x2 x3 (ix2 b p) = (rowsR x0 x1 x2 x3 b).bx ((rowsR x0 x1 x2 x3 b).mt p) 3 := by
  have h := (match_pos x0 x1 x2 x3 b p).1
  simp only [val_main_v128, val_main_v127, val_main_v126, val_main_v125, val_main_v124, val_main_v123, val_main_v122, val_main_v121, val_main_v81, val_main_call8_v0, val_main_call8_v1, val_main_call8_v2, val_main_cst_23, val_main_cst_24]
  generalize val_main_v90 (F := Ideal) x2 x3 = u at h ⊢
  clean_types
  pointwise
  exact one_hot _ _ (fun j => (Spec.bit_cmpi_eq _ _).trans (by rw [h])) _ _ Spec.c_zero

/-! The encoding of the matched box against the prior, part by part. -/

theorem trueLoc0_at (b : Fin 32) (p : Fin 24564) : val_main_v149 (F := Ideal) x2 x3 (ix2 b p)
    = Spec.trueLoc ((rowsR x0 x1 x2 x3 b).pr p) ((rowsR x0 x1 x2 x3 b).bx ((rowsR x0 x1 x2 x3 b).mt p)) 0 := by
  have h0 := coord0_at x0 x1 x2 x3 b p
  have h1 := coord2_at x0 x1 x2 x3 b p
  simp only [val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_v149, val_main_cst_25, val_main_cst_26]
  generalize val_main_v104 (F := Ideal) x2 x3 = u0 at h0 ⊢
  generalize val_main_v120 (F := Ideal) x2 x3 = u1 at h1 ⊢
  clean_types
  pointwise
  rw [h0, h1, Spec.c_two]
  rfl

theorem trueLoc1_at (b : Fin 32) (p : Fin 24564) : val_main_v158 (F := Ideal) x2 x3 (ix2 b p)
    = Spec.trueLoc ((rowsR x0 x1 x2 x3 b).pr p) ((rowsR x0 x1 x2 x3 b).bx ((rowsR x0 x1 x2 x3 b).mt p)) 1 := by
  have h0 := coord1_at x0 x1 x2 x3 b p
  have h1 := coord3_at x0 x1 x2 x3 b p
  simp only [val_main_v129, val_main_v130, val_main_v131, val_main_v132, val_main_v133, val_main_v134, val_main_v135, val_main_v136, val_main_v137, val_main_v138, val_main_v139, val_main_v140, val_main_v150, val_main_v151, val_main_v152, val_main_v153, val_main_v154, val_main_v155, val_main_v156, val_main_v157, val_main_v158, val_main_cst_27, val_main_cst_28]
  generalize val_main_v112 (F := Ideal) x2 x3 = u0 at h0 ⊢
  generalize val_main_v128 (F := Ideal) x2 x3 = u1 at h1 ⊢
  clean_types
  pointwise
  rw [h0, h1, Spec.c_two]
  rfl

theorem trueLoc2_at (b : Fin 32) (p : Fin 24564) : val_main_v164 (F := Ideal) x2 x3 (ix2 b p)
    = Spec.trueLoc ((rowsR x0 x1 x2 x3 b).pr p) ((rowsR x0 x1 x2 x3 b).bx ((rowsR x0 x1 x2 x3 b).mt p)) 2 := by
  have h0 := coord0_at x0 x1 x2 x3 b p
  have h1 := coord2_at x0 x1 x2 x3 b p
  simp only [val_main_v129, val_main_v130, val_main_v131, val_main_v132, val_main_v133, val_main_v134, val_main_v135, val_main_v136, val_main_v137, val_main_v138, val_main_v139, val_main_v140, val_main_v159, val_main_v160, val_main_v161, val_main_v162, val_main_v163, val_main_v164, val_main_cst_29]
  generalize val_main_v104 (F := Ideal) x2 x3 = u0 at h0 ⊢
  generalize val_main_v120 (F := Ideal) x2 x3 = u1 at h1 ⊢
  clean_types
  pointwise
  rw [h0, h1]
  rfl

theorem trueLoc3_at (b : Fin 32) (p : Fin 24564) : val_main_v170 (F := Ideal) x2 x3 (ix2 b p)
    = Spec.trueLoc ((rowsR x0 x1 x2 x3 b).pr p) ((rowsR x0 x1 x2 x3 b).bx ((rowsR x0 x1 x2 x3 b).mt p)) 3 := by
  have h0 := coord1_at x0 x1 x2 x3 b p
  have h1 := coord3_at x0 x1 x2 x3 b p
  simp only [val_main_v129, val_main_v130, val_main_v131, val_main_v132, val_main_v133, val_main_v134, val_main_v135, val_main_v136, val_main_v137, val_main_v138, val_main_v139, val_main_v140, val_main_v165, val_main_v166, val_main_v167, val_main_v168, val_main_v169, val_main_v170, val_main_cst_30]
  generalize val_main_v112 (F := Ideal) x2 x3 = u0 at h0 ⊢
  generalize val_main_v128 (F := Ideal) x2 x3 = u1 at h1 ⊢
  clean_types
  pointwise
  rw [h0, h1]
  rfl

/-- The distance of a predicted location from the true one. -/
theorem dist_at (b : Fin 32) (p : Fin 24564) (k : Fin 4) : val_main_v177 (F := Ideal) x0 x2 x3 (ix3 b p k)
    = Spec.dist1 ((rowsR x0 x1 x2 x3 b).lc p k) (Spec.trueLoc ((rowsR x0 x1 x2 x3 b).pr p) ((rowsR x0 x1 x2 x3 b).bx ((rowsR x0 x1 x2 x3 b).mt p)) k) := by
  have h0 := trueLoc0_at x0 x1 x2 x3 b p
  have h1 := trueLoc1_at x0 x1 x2 x3 b p
  have h2 := trueLoc2_at x0 x1 x2 x3 b p
  have h3 := trueLoc3_at x0 x1 x2 x3 b p
  simp only [val_main_v177, val_main_v176, val_main_v175, val_main_v174, val_main_v173, val_main_v172, val_main_v171]
  generalize val_main_v149 (F := Ideal) x2 x3 = u0 at h0 ⊢
  generalize val_main_v158 (F := Ideal) x2 x3 = u1 at h1 ⊢
  generalize val_main_v164 (F := Ideal) x2 x3 = u2 at h2 ⊢
  generalize val_main_v170 (F := Ideal) x2 x3 = u3 at h3 ⊢
  clean_types
  pointwise
  rw [h0, h1, h2, h3, Ideal.absf_def]
  unfold Spec.dist1
  generalize Spec.trueLoc _ _ = w
  match k with
  | ⟨0, _⟩ => rfl
  | ⟨1, _⟩ => rfl
  | ⟨2, _⟩ => rfl
  | ⟨3, _⟩ => rfl

/-- Times one at the positives and zero elsewhere: the choice of the positives. -/
theorem mul_pf (R : Row) (p : Fin NP) (x : EReal) : x * R.pf p = if R.pos p then x else 0 := by
  unfold Row.pf
  split_ifs
  · rw [mul_one]
  · rw [mul_zero]

/-- The location losses' sum over the positives of the batch. -/
theorem locTotal (i : S_.Idx) : val_main_v181 (F := Ideal) x0 x2 x3 i = ∑ b, (rowsR x0 x1 x2 x3 b).locS := by
  have h := dist_at x0 x1 x2 x3
  have h' := posF_at x0 x1 x2 x3
  simp only [val_main_v181, val_main_v180, val_main_v179, val_main_v178, val_main_cst_31]
  generalize val_main_v177 (F := Ideal) x0 x2 x3 = u at h ⊢
  generalize val_main_v95 (F := Ideal) x2 x3 = v at h' ⊢
  clean_types
  pointwise
  refine Finset.sum_congr rfl fun b _ => ?_
  unfold Row.locS
  refine Finset.sum_congr rfl fun p _ => ?_
  simp only [h, h', mul_pf]
  unfold Row.l1 Spec.l1Of
  split_ifs
  · rfl
  · exact Finset.sum_const_zero

/-- The number of positives of the batch. -/
theorem nTotal (i : S_.Idx) : val_main_v96 (F := Ideal) x2 x3 i = ∑ b, (rowsR x0 x1 x2 x3 b).nS := by
  have h' := posF_at x0 x1 x2 x3
  simp only [val_main_v96, val_main_cst_16]
  generalize val_main_v95 (F := Ideal) x2 x3 = v at h' ⊢
  clean_types
  pointwise
  refine Finset.sum_congr rfl fun b _ => ?_
  unfold Row.nS
  exact Finset.sum_congr rfl fun p _ => h' b p

end Cert.Proof.Ref

end
-- ==== Proof.RConf.lean ====
/-
  The reference's confidence loss over the extended reals, the hard negatives apart.
-/
module

public import Idealize.ShloMosaic.Lib.Pointwise
public import Idealize.ShloMosaic.Lib.StableHlo.ReadAt
public import proofs.«01_k».proof.Proof.RLoc

@[expose] public section

noncomputable section

namespace Cert.Proof.Ref

open Cert.ReferenceIdeal Cert.ReferenceIdeal.Gen Cert.ReferenceIdeal.Read
open Idealize.ShloMosaic Idealize.SL.Sem
open Cert.Proof.Spec (NP Row)
open scoped Classical

variable (x0 : (⟨S32x24564x4, .f32⟩ : BufTy).Contents (Elt Ideal)) (x1 : (⟨S32x24564x2, .f32⟩ : BufTy).Contents (Elt Ideal))
  (x2 : (⟨S32x16x4, .f32⟩ : BufTy).Contents (Elt Ideal)) (x3 : (⟨S24564x4, .f32⟩ : BufTy).Contents (Elt Ideal))

/-- The greater of two, as a maximum over two indices from minus infinity. -/
theorem fold_two (f : Fin 2 → EReal) : Finset.univ.fold max ⊥ f = max (f 0) (f 1) := by
  refine le_antisymm ?_ ?_
  · rw [Finset.fold_max_le]
    refine ⟨bot_le, fun k _ => ?_⟩
    match k with
    | ⟨0, _⟩ => exact le_max_left _ _
    | ⟨1, _⟩ => exact le_max_right _ _
  · refine max_le ?_ ?_ <;> rw [Finset.le_fold_max]
    · exact .inr ⟨0, Finset.mem_univ _, le_rfl⟩
    · exact .inr ⟨1, Finset.mem_univ _, le_rfl⟩

/-- The greater of the two scores. -/
theorem top_at (b : Fin 32) (p : Fin 24564) : val_main_call9_v0 (F := Ideal) x1 (ix2 b p) = Finset.univ.fold max ⊥ fun k : Fin 2 => (x1 (ix3 b p k) : EReal) := by
  unfold val_main_call9_v0 val_main_call9_cst
  generalize hu : (Finset.univ.fold max ⊥ fun k : Fin 2 => (x1 (ix3 b p k) : EReal)) = u
  clean_types
  pointwise
  rw [Spec.c_bot]
  exact hu

/-- The greater of the two scores, as the softmax takes it. -/
theorem top'_at (b : Fin 32) (p : Fin 24564) : val_main_call9_v2 (F := Ideal) x1 (ix2 b p) = max (x1 (ix3 b p 0) : EReal) (x1 (ix3 b p 1) : EReal) := by
  have e1 : val_main_call9_v1 (F := Ideal) (ix2 b p) = (⊥ : EReal) := by
    simp only [val_main_call9_v1, val_main_call9_cst_0]
    clean_types
    pointwise
    exact Spec.c_bot
  rw [val_main_call9_v2_apply, e1, top_at, fold_two]
  exact bot_sup_eq _

/-- The log probabilities of the two classes. -/
theorem logProb_at (b : Fin 32) (p : Fin 24564) (k : Fin 2) : val_main_v184 (F := Ideal) x1 (ix3 b p k) = Spec.logProb ((rowsR x0 x1 x2 x3 b).sc p) k := by
  have e2 := top'_at x1
  simp only [val_main_v184, val_main_call9_v3, val_main_call9_v4, val_main_call9_v5, val_main_call9_v6, val_main_call9_v7, val_main_call9_v8, val_main_call9_v9, val_main_call9_v10, val_main_call9_cst_1]
  generalize val_main_call9_v2 (F := Ideal) x1 = u at e2 ⊢
  clean_types
  pointwise
  rw [Fin.sum_univ_two, e2]
  unfold Spec.logProb
  rw [zero_add]
  rfl

/-- Minus the log probability of the class a prior is to have: its cross entropy. -/
theorem ce_at (b : Fin 32) (hR : (rowsR x0 x1 x2 x3 b).Good) (p : Fin 24564) : val_main_v190 (F := Ideal) x1 x2 x3 (ix2 b p) = (rowsR x0 x1 x2 x3 b).ce p := by
  have h1 := logProb_at x0 x1 x2 x3 b p 1
  have h0 := logProb_at x0 x1 x2 x3 b p 0
  have hp := (match_pos x0 x1 x2 x3 b p).2
  have e1 : val_main_v186 (F := Ideal) x1 (ix2 b p) = Spec.logProb ((rowsR x0 x1 x2 x3 b).sc p) 1 := by
    rw [← h1]
    simp only [val_main_v186, val_main_v185]
    generalize val_main_v184 (F := Ideal) x1 = u
    clean_types
    pointwise
  have e0 : val_main_v188 (F := Ideal) x1 (ix2 b p) = Spec.logProb ((rowsR x0 x1 x2 x3 b).sc p) 0 := by
    rw [← h0]
    simp only [val_main_v188, val_main_v187]
    generalize val_main_v184 (F := Ideal) x1 = u
    clean_types
    pointwise
  rw [val_main_v190_apply, val_main_v189_apply, Spec.sel_bit hp, e1, e0]
  unfold Row.ce
  rw [(Spec.ce_real _ (hR.sc p) _).2]
  rfl

/-- The losses the hard negatives are chosen from. -/
theorem neg_at (b : Fin 32) (hR : (rowsR x0 x1 x2 x3 b).Good) (p : Fin 24564) : val_main_v193 (F := Ideal) x1 x2 x3 (ix2 b p) = (rowsR x0 x1 x2 x3 b).neg p := by
  have hp := (match_pos x0 x1 x2 x3 b p).2
  have e0 : val_main_call11_v1 (F := Ideal) (ix2 b p) = (0 : EReal) := by
    simp only [val_main_call11_v1, val_main_call11_v0, val_main_cst_34]
    clean_types
    pointwise
    exact Spec.c_zero
  rw [val_main_v193_apply, Spec.sel_bit hp, e0, ce_at x0 x1 x2 x3 b hR p]
  unfold Row.neg
  rfl

/-- The confidence losses' sum over the positives of the batch. -/
theorem confTotal (hR : ∀ b, (rowsR x0 x1 x2 x3 b).Good) (i : S_.Idx) : val_main_v192 (F := Ideal) x1 x2 x3 i = ∑ b, (rowsR x0 x1 x2 x3 b).confS := by
  have h : ∀ b p, val_main_v191 (F := Ideal) x1 x2 x3 (ix2 b p) = if (rowsR x0 x1 x2 x3 b).pos p then (rowsR x0 x1 x2 x3 b).ce p else 0 := fun b p => by
    rw [val_main_v191_apply, ce_at x0 x1 x2 x3 b (hR b) p, posF_at x0 x1 x2 x3]
    exact mul_pf _ p _
  simp only [val_main_v192, val_main_cst_33]
  generalize val_main_v191 (F := Ideal) x1 x2 x3 = u at h ⊢
  clean_types
  pointwise
  refine Finset.sum_congr rfl fun b _ => ?_
  unfold Row.confS
  exact Finset.sum_congr rfl fun p _ => h b p

end Cert.Proof.Ref

end
-- ==== Proof.RSort.lean ====
/-
  The reference's sort of the losses: a rearrangement of each row, from the greatest loss down.
-/
module

public import Idealize.ShloMosaic.Lib.SortFacts
public import Idealize.ShloMosaic.Lib.Pointwise
public import Idealize.ShloMosaic.Lib.StableHlo.ReadAt
public import proofs.«01_k».proof.Proof.RConf

@[expose] public section

noncomputable section

namespace Cert.Proof.Ref

open Cert.ReferenceIdeal Cert.ReferenceIdeal.Gen Cert.ReferenceIdeal.Read
open Idealize.ShloMosaic Idealize.SL.Sem
open Cert.Proof.Spec (NP Row)

/-- The order the losses are sorted by, of real numbers. -/
theorem before_eq (a b : ℝ) : (comparator_f32_d1 (F := Ideal) (a : EReal) (b : EReal) == 1#1) = decide (a < b) := by
  have z : (Ideal.ofBits FTy.f32 0#32 : EReal) = ((0 : ℝ) : EReal) := Spec.c_zero
  have key : ∀ x : ℝ, Scalar.select (FloatOps.cmpf (F := Ideal) (φ := .f32) .une (x : EReal) (x : EReal)) (FloatOps.ofBits (F := Ideal) .f32 0x7FC00000#32)
      (Scalar.select (FloatOps.cmpf (F := Ideal) (φ := .f32) .oeq (x : EReal) (FloatOps.ofBits (F := Ideal) .f32 0#32)) (FloatOps.ofBits (F := Ideal) .f32 0#32) (x : EReal)) = (x : EReal) := fun x => by
    have h1 : ¬ FloatOps.cmpf (F := Ideal) (φ := .f32) .une (x : EReal) (x : EReal) = 1#1 := by
      simp [Ideal.cmpf_def, Ideal.cmp]
    rw [Spec.sel_bit (p := False) (by simpa using h1), if_neg not_false]
    refine (Spec.sel_bit (Spec.bit_oeq (x : EReal) (FloatOps.ofBits (F := Ideal) .f32 0#32)) _ _).trans ?_
    split_ifs with h
    · exact h.symm
    · rfl
  unfold comparator_f32_d1
  simp only [key, Ideal.cmpfTotal_def]
  by_cases h : a < b
  · simp [Ideal.cmp, CmpDirection.ordered, h, EReal.coe_lt_coe_iff]
  · simp [Ideal.cmp, CmpDirection.ordered, h, EReal.coe_lt_coe_iff]

/-- Sorted by minus themselves, real numbers stand from the greatest down: some rearrangement of a row's numbers is
read off along it. -/
theorem sort_row (x : S32x24564.Idx → Ideal .f32) (b : Fin 32) (g : Fin NP → ℝ) (hx : ∀ p, x (ix2 b p) = ((-g p : ℝ) : EReal)) :
    ∃ σ : Fin NP → Fin NP, Function.Bijective σ ∧ (∀ i j, i ≤ j → g (σ j) ≤ g (σ i))
      ∧ ∀ r : Fin NP, Host.sort S32x24564 1 (comparator_f32_d1 (F := Ideal)) x (ix2 b r) = ((-g (σ r) : ℝ) : EReal) := by
  refine ⟨sortedFrom fun k k' => decide (-g k < -g k'), ⟨sortedFrom_injective _, sortedFrom_surjective _⟩, fun i j hij => ?_, fun r => ?_⟩
  · rcases hij.eq_or_lt with h | h
    · rw [h]
    · have e := sortedFrom_noInversion (fun k k' => decide (-g k < -g k')) (fun k k' => decide (-g k < -g k'))
        (fun a c hac => by simp only [decide_eq_true_eq, decide_eq_false_iff_not, not_lt] at *; exact hac.le) (fun _ _ h => h)
        (fun a c d h1 h2 => by simp only [decide_eq_false_iff_not, not_lt] at *; exact h2.trans h1) i j h
      simp only [decide_eq_false_iff_not, not_lt] at e
      linarith
  · have h1 : 1 < S32x24564.rank := by decide
    have ha : ∀ k : Fin 24564, Shape.Idx.along (s := S32x24564) (ix2 b r) ⟨1, h1⟩ k = ix2 b k := fun k => by
      funext d
      match d with
      | ⟨0, _⟩ => rfl
      | ⟨1, _⟩ => rfl
    have hs : Host.sort S32x24564 1 (comparator_f32_d1 (F := Ideal)) x (ix2 b r)
        = x (Shape.Idx.along (s := S32x24564) (ix2 b r) ⟨1, h1⟩ (sortedFrom (n := 24564) (fun k k' : Fin 24564 => comparator_f32_d1 (F := Ideal)
            (x (Shape.Idx.along (s := S32x24564) (ix2 b r) ⟨1, h1⟩ k)) (x (Shape.Idx.along (s := S32x24564) (ix2 b r) ⟨1, h1⟩ k')) == 1#1) r)) := by
      unfold Host.sort
      rw [dif_pos h1]
      rfl
    have hf : (fun k k' : Fin 24564 => (comparator_f32_d1 (F := Ideal) (x (Shape.Idx.along (s := S32x24564) (ix2 b r) ⟨1, h1⟩ k))
        (x (Shape.Idx.along (s := S32x24564) (ix2 b r) ⟨1, h1⟩ k')) == 1#1)) = fun k k' => decide (-g k < -g k') := by
      funext k k'
      rw [ha, ha, hx k, hx k']
      exact before_eq _ _
    rw [hs, hf, ha, hx]

end Cert.Proof.Ref

end
-- ==== Proof.RHard.lean ====
/-
  The reference's hard negatives over the extended reals, and its loss.
-/
module

public import proofs.«01_k».proof.Proof.RSort

@[expose] public section

noncomputable section

namespace Cert.Proof.Ref

open Cert.ReferenceIdeal Cert.ReferenceIdeal.Gen Cert.ReferenceIdeal.Read
open Idealize.ShloMosaic Idealize.SL.Sem
open Cert.Proof.Spec (NP Row)
open scoped Classical

variable (x0 : (⟨S32x24564x4, .f32⟩ : BufTy).Contents (Elt Ideal)) (x1 : (⟨S32x24564x2, .f32⟩ : BufTy).Contents (Elt Ideal))
  (x2 : (⟨S32x16x4, .f32⟩ : BufTy).Contents (Elt Ideal)) (x3 : (⟨S24564x4, .f32⟩ : BufTy).Contents (Elt Ideal))

/-- How many negatives are taken: three for each positive. -/
theorem count_at (b : Fin 32) : val_main_v196 (F := Ideal) x2 x3 (ix1 b) = ((3 : ℝ) : EReal) * (rowsR x0 x1 x2 x3 b).nS := by
  have h' := posF_at x0 x1 x2 x3
  have e1 : val_main_v194 (F := Ideal) x2 x3 (ix1 b) = (rowsR x0 x1 x2 x3 b).nS := by
    unfold Row.nS
    rw [← Finset.sum_congr rfl fun p _ => h' b p]
    simp only [val_main_v194, val_main_cst_35]
    generalize val_main_v95 (F := Ideal) x2 x3 = v
    clean_types
    pointwise
  have e2 : val_main_v195 (F := Ideal) (ix1 b) = ((3 : ℝ) : EReal) := by
    simp only [val_main_v195, val_main_cst_36]
    clean_types
    pointwise
    exact Spec.c_three
  rw [val_main_v196_apply, e1, e2]
  rfl

/-- A rank is one less than a count. -/
theorem rank_iff (q k : ℕ) : Ideal.cmp .oeq ((q : ℝ) : EReal) (((k : ℝ) : EReal) - ((1 : ℝ) : EReal)) = 1#1 ↔ q + 1 = k := by
  rw [Spec.bit_oeq, ← EReal.coe_sub, EReal.coe_eq_coe_iff, eq_sub_iff_add_eq]
  norm_cast

/-- The rank tested for, `k - 1`, is one less than the count. -/
theorem rank_at (b : Fin 32) (r : Fin 24564) : val_main_v206 (F := Ideal) x2 x3 (ix2 b r) = 1#1 ↔ r.val + 1 = 3 * (rowsR x0 x1 x2 x3 b).nN := by
  have h := count_at x0 x1 x2 x3 b
  rw [Row.nS_eq] at h
  have e1 : val_main_v201 (F := Ideal) (ix2 b r) = ((r.val : ℝ) : EReal) := by
    simp only [val_main_v201, val_main_v200]
    clean_types
    pointwise
    have ht : (BitVec.ofNat 32 r.val).toInt = (r.val : ℤ) := by
      have := r.isLt
      rw [BitVec.toInt_eq_toNat_of_lt (by rw [BitVec.toNat_ofNat]; omega), BitVec.toNat_ofNat, Nat.mod_eq_of_lt (by omega)]
    show (((BitVec.ofNat 32 r.val).toInt : ℝ) : EReal) = _
    rw [ht, Int.cast_natCast]
  have e2 : val_main_v205 (F := Ideal) x2 x3 (ix2 b r) = (((3 * (rowsR x0 x1 x2 x3 b).nN : ℕ) : ℝ) : EReal) - ((1 : ℝ) : EReal) := by
    have e3 : (((3 * (rowsR x0 x1 x2 x3 b).nN : ℕ) : ℝ) : EReal) = val_main_v196 (F := Ideal) x2 x3 (ix1 b) := by
      rw [h, ← EReal.coe_mul]; push_cast; rfl
    rw [e3]
    simp only [val_main_v205, val_main_v204, val_main_v203, val_main_v202, val_main_cst_37]
    generalize val_main_v196 (F := Ideal) x2 x3 = u
    clean_types
    pointwise
    rfl
  rw [val_main_v206_apply, e1, e2]
  generalize 3 * (rowsR x0 x1 x2 x3 b).nN = k
  generalize r.val = q
  exact rank_iff q k

/-- The reference's pick from the sorted losses is the `k`-th greatest, `k` three times the positives; zero when there
are not as many priors. -/
theorem kth_at (b : Fin 32) (hR : (rowsR x0 x1 x2 x3 b).Good) :
    ∃ K : ℝ, (∀ ng : Fin NP → ℝ, (∀ p, (rowsR x0 x1 x2 x3 b).neg p = ng p) → Search.IsKth ng (3 * (rowsR x0 x1 x2 x3 b).nN) K)
      ∧ val_main_v208 (F := Ideal) x1 x2 x3 (ix1 b) = (K : EReal) := by
  have hN : NP = 24564 := rfl
  obtain ⟨ng, -, hng⟩ := Row.neg_real _ hR
  have h1 := Row.nN_pos (rowsR x0 x1 x2 x3 b)
  have h197 : ∀ p, val_main_v197 (F := Ideal) x1 x2 x3 (ix2 b p) = ((-ng p : ℝ) : EReal) := fun p => by
    rw [val_main_v197_apply, neg_at x0 x1 x2 x3 b hR p, hng]
    exact (EReal.coe_neg _).symm
  obtain ⟨σ, hσ, hs, hr⟩ := sort_row _ b ng h197
  have h207 : ∀ r : Fin 24564, val_main_v207 (F := Ideal) x1 x2 x3 (ix2 b r) = if r.val + 1 = 3 * (rowsR x0 x1 x2 x3 b).nN then ((ng (σ r) : ℝ) : EReal) else 0 := fun r => by
    have e0 : val_main_call13_v1 (F := Ideal) (ix2 b r) = (0 : EReal) := by
      simp only [val_main_call13_v1, val_main_call13_v0, val_main_cst_38]
      clean_types
      pointwise
      exact Spec.c_zero
    have e1 : val_main_v199 (F := Ideal) x1 x2 x3 (ix2 b r) = ((ng (σ r) : ℝ) : EReal) := by
      have e2 : val_main_v198 (F := Ideal) x1 x2 x3 (ix2 b r) = ((-ng (σ r) : ℝ) : EReal) := hr r
      rw [val_main_v199_apply, e2]
      refine (EReal.coe_neg _).symm.trans ?_
      rw [neg_neg]
    rw [val_main_v207_apply, Spec.sel_bit (rank_at x0 x1 x2 x3 b r), e0, e1]
  have h208 : val_main_v208 (F := Ideal) x1 x2 x3 (ix1 b) = ∑ r : Fin 24564, if r.val + 1 = 3 * (rowsR x0 x1 x2 x3 b).nN then ((ng (σ r) : ℝ) : EReal) else 0 := by
    rw [← Finset.sum_congr rfl fun r _ => h207 r]
    simp only [val_main_v208, val_main_cst_39]
    generalize val_main_v207 (F := Ideal) x1 x2 x3 = v
    clean_types
    pointwise
  have huniq : ∀ ng' : Fin NP → ℝ, (∀ p, (rowsR x0 x1 x2 x3 b).neg p = ng' p) → ng' = ng := fun ng' h' =>
    funext fun p => EReal.coe_injective ((h' p).symm.trans (hng p))
  generalize (rowsR x0 x1 x2 x3 b).nN = n at h1 h208 ⊢
  by_cases hn : 3 * n ≤ NP
  · refine ⟨ng (σ ⟨3 * n - 1, by omega⟩), fun ng' h' => ?_, ?_⟩
    · rw [huniq ng' h']
      exact Search.isKth_of_sorted ng σ hσ hs _ (by omega) _ (by show 3 * n - 1 + 1 = _; omega)
    · rw [h208, Finset.sum_eq_single (⟨3 * n - 1, by omega⟩ : Fin 24564)]
      · rw [if_pos (by show 3 * n - 1 + 1 = _; omega)]
      · intro r _ hne
        rw [if_neg fun e => hne (Fin.ext (by show r.val = 3 * n - 1; omega))]
      · exact fun h => absurd (Finset.mem_univ _) h
  · refine ⟨0, fun ng' h' => Search.isKth_zero _ _ (by omega), ?_⟩
    rw [h208, Finset.sum_eq_zero fun r _ => if_neg fun e => by have := r.isLt; omega]
    rfl

/-- The greatest loss of a row. -/
theorem greatest_at (b : Fin 32) (hR : (rowsR x0 x1 x2 x3 b).Good) : val_main_v209 (F := Ideal) x1 x2 x3 (ix1 b) = Finset.univ.sup (rowsR x0 x1 x2 x3 b).neg := by
  have hn := neg_at x0 x1 x2 x3 b hR
  have e : val_main_v209 (F := Ideal) x1 x2 x3 (ix1 b) = Finset.univ.fold max ⊥ fun p : Fin 24564 => (val_main_v193 (F := Ideal) x1 x2 x3 (ix2 b p) : EReal) := by
    simp only [val_main_v209, val_main_cst_40]
    generalize val_main_v193 (F := Ideal) x1 x2 x3 = v
    generalize hu : (Finset.univ.fold max ⊥ fun p : Fin 24564 => (v (ix2 b p) : EReal)) = u
    clean_types
    pointwise
    rw [Spec.c_bot]
    exact hu
  rw [e, funext hn]
  exact Spec.fold_max_sup _ _

/-- The grid's step of a row. -/
theorem step_at (b : Fin 32) (hR : (rowsR x0 x1 x2 x3 b).Good) : val_main_v213 (F := Ideal) x1 x2 x3 (ix1 b) = (rowsR x0 x1 x2 x3 b).step := by
  have e1 : val_main_v210 (F := Ideal) (ix1 b) = (1 : EReal) := by
    simp only [val_main_v210, val_main_cst_41]
    clean_types
    pointwise
  have e2 : val_main_v212 (F := Ideal) (ix1 b) = ((4 ^ 12 : ℝ) : EReal) := by
    rw [← Spec.c_grid]
    generalize hu : (Ideal.ofBits .f32 0x4B800000#32 : EReal) = u
    simp only [val_main_v212, val_main_cst_42]
    clean_types
    pointwise
    exact hu
  have e := greatest_at x0 x1 x2 x3 b hR
  rw [val_main_v213_apply, val_main_v211_apply, e, e1, e2]
  unfold Row.step
  rfl

/-- The threshold of a row. -/
theorem thr_at (b : Fin 32) (hR : (rowsR x0 x1 x2 x3 b).Good) (K : ℝ) (hK : val_main_v208 (F := Ideal) x1 x2 x3 (ix1 b) = (K : EReal)) :
    val_main_v218 (F := Ideal) x1 x2 x3 (ix1 b) = (rowsR x0 x1 x2 x3 b).thrK K := by
  have e1 : val_main_v216 (F := Ideal) (ix1 b) = (1 : EReal) := by
    simp only [val_main_v216, val_main_cst_43]
    clean_types
    pointwise
  have e := step_at x0 x1 x2 x3 b hR
  rw [val_main_v218_apply, val_main_v217_apply, val_main_v215_apply, val_main_v214_apply, hK, e, e1]
  unfold Row.thrK
  rfl

/-- By how much a loss passes the threshold. -/
theorem over_at (b : Fin 32) (p : Fin 24564) :
    val_main_v223 (F := Ideal) x1 x2 x3 (ix2 b p) = max ((val_main_v193 (F := Ideal) x1 x2 x3 (ix2 b p) : EReal) - val_main_v218 (F := Ideal) x1 x2 x3 (ix1 b)) 0 := by
  have e0 : val_main_v222 (F := Ideal) (ix2 b p) = (0 : EReal) := by
    simp only [val_main_v222, val_main_cst_44]
    clean_types
    pointwise
    try exact Spec.c_zero
  have e1 : val_main_v220 (F := Ideal) x1 x2 x3 (ix2 b p) = val_main_v218 (F := Ideal) x1 x2 x3 (ix1 b) := by
    simp only [val_main_v220, val_main_v219]
    generalize val_main_v218 (F := Ideal) x1 x2 x3 = w
    clean_types
    pointwise
  rw [val_main_v223_apply, val_main_v221_apply, e0, e1]
  rfl

/-- The hard negatives' sum of a row, at the grid's threshold above the `k`-th greatest loss. -/
theorem hard_at (b : Fin 32) (hR : (rowsR x0 x1 x2 x3 b).Good) (K : ℝ) (hK : val_main_v208 (F := Ideal) x1 x2 x3 (ix1 b) = (K : EReal)) :
    val_main_v226 (F := Ideal) x1 x2 x3 (ix1 b) = (rowsR x0 x1 x2 x3 b).hardK K := by
  have hn := neg_at x0 x1 x2 x3 b hR
  have hthr := thr_at x0 x1 x2 x3 b hR K hK
  have e : val_main_v224 (F := Ideal) x1 x2 x3 (ix1 b) = ∑ p : Fin 24564, (val_main_v223 (F := Ideal) x1 x2 x3 (ix2 b p) : EReal) := by
    simp only [val_main_v224, val_main_cst_45]
    generalize val_main_v223 (F := Ideal) x1 x2 x3 = v
    clean_types
    pointwise
  have hsum : val_main_v224 (F := Ideal) x1 x2 x3 (ix1 b) = ∑ p, max ((rowsR x0 x1 x2 x3 b).neg p - (rowsR x0 x1 x2 x3 b).thrK K) 0 := by
    rw [e]
    exact Finset.sum_congr rfl fun p _ => by rw [over_at, hn, hthr]
  rw [val_main_v226_apply, val_main_v225_apply, hsum, hthr, count_at x0 x1 x2 x3 b]
  unfold Row.hardK
  rfl

/-- The reference's loss is the loss of the batch's rows, at every row's `k`-th greatest loss. -/
theorem loss_at (hR : ∀ b, (rowsR x0 x1 x2 x3 b).Good) (K : Fin 32 → ℝ)
    (hK : ∀ b, val_main_v208 (F := Ideal) x1 x2 x3 (ix1 b) = ((K b : ℝ) : EReal)) (i : S_.Idx) :
    val_main_v231 (F := Ideal) x0 x1 x2 x3 i = Spec.lossOf (rowsR x0 x1 x2 x3) K := by
  have h227 : val_main_v227 (F := Ideal) x1 x2 x3 i = ∑ b, (rowsR x0 x1 x2 x3 b).hardK (K b) := by
    have e : val_main_v227 (F := Ideal) x1 x2 x3 i = ∑ b : Fin 32, (val_main_v226 (F := Ideal) x1 x2 x3 (ix1 b) : EReal) := by
      simp only [val_main_v227, val_main_cst_46]
      generalize val_main_v226 (F := Ideal) x1 x2 x3 = v
      clean_types
      pointwise
    rw [e]
    exact Finset.sum_congr rfl fun b _ => hard_at x0 x1 x2 x3 b (hR b) (K b) (hK b)
  have hone : val_main_cst_47 (F := Ideal) i = (1 : EReal) := Spec.c_one
  have hloc := locTotal x0 x1 x2 x3 i
  have hnum := nTotal x0 x1 x2 x3 i
  have hconf := confTotal x0 x1 x2 x3 hR i
  rw [val_main_v231_apply, val_main_v230_apply, val_main_v229_apply, val_main_v228_apply, val_main_v183_apply, val_main_v182_apply, h227, hone, hloc, hnum, hconf]
  unfold Spec.lossOf
  refine congrArg₂ (· + ·) rfl ?_
  exact one_mul _

end Cert.Proof.Ref

end
-- ==== Proof.Valid.lean ====
/-
  The precondition, read at the batch's rows: every row is good.
-/
module

public import Idealize.ShloMosaic.Lib.Pointwise
public import Idealize.ShloMosaic.Lib.StableHlo.ReadAt
public import proofs.«01_k».proof.Defs
public import proofs.«01_k».proof.Proof.KFinal

@[expose] public section

noncomputable section

namespace Cert.Proof

open Idealize.ShloMosaic Idealize.SL.Sem
open Cert.Proof.Spec (NP Row)
open scoped Classical

section
variable [Cert.Pre_valid.Facts]
open Cert.Pre_valid
variable (x0 : Vec Ideal S32x24564x4 .f32) (x1 : Vec Ideal S32x24564x2 .f32) (x2 : Vec Ideal S32x16x4 .f32) (x3 : Vec Ideal S24564x4 .f32)

/-- Scores whose test is all ones are finite. -/
theorem scores_fin (h : (fn (F := Ideal) x0 x1 x2 x3).1 = fun _ => 1#1) (b : Fin 32) (p : Fin 24564) (k : Fin 2) : Spec.Fin' (x1 (ix3 b p k)) := by
  have e := congrFun h (ix3 b p k)
  simp only [fn] at e
  generalize hq : (1#1 : BitVec 1) = q at e
  refine Spec.fin_of_abs ?_
  rw [← Spec.c_top, ← Spec.bit_olt, hq, ← e]
  clean_types
  pointwise
  rfl

/-- Boxes whose test is all ones are finite. -/
theorem boxes_fin (h : (fn (F := Ideal) x0 x1 x2 x3).2.1 = fun _ => 1#1) (b : Fin 32) (j : Fin 16) (k : Fin 4) : Spec.Fin' (x2 (ix3 b j k)) := by
  have e := congrFun h (ix3 b j k)
  simp only [fn] at e
  generalize hq : (1#1 : BitVec 1) = q at e
  refine Spec.fin_of_abs ?_
  rw [← Spec.c_top, ← Spec.bit_olt, hq, ← e]
  clean_types
  pointwise
  rfl

/-- Priors whose test is all ones are finite. -/
theorem priors_fin (h : (fn (F := Ideal) x0 x1 x2 x3).2.2.1 = fun _ => 1#1) (p : Fin 24564) (k : Fin 4) : Spec.Fin' (x3 (ix2 p k)) := by
  have e := congrFun h (ix2 p k)
  simp only [fn] at e
  generalize hq : (1#1 : BitVec 1) = q at e
  refine Spec.fin_of_abs ?_
  rw [← Spec.c_top, ← Spec.bit_olt, hq, ← e]
  clean_types
  pointwise
  rfl

/-- Boxes whose test is all ones have their first corner before their second. -/
theorem boxes_size (h : (fn (F := Ideal) x0 x1 x2 x3).2.2.2.1 = fun _ => 1#1) (b : Fin 32) (j : Fin 16) :
    (x2 (ix3 b j 0) : EReal) < x2 (ix3 b j 2) ∧ (x2 (ix3 b j 1) : EReal) < x2 (ix3 b j 3) := by
  constructor
  · have e := congrFun h (ix3 b j 0)
    simp only [fn] at e
    generalize hq : (1#1 : BitVec 1) = q at e
    rw [← Spec.bit_olt, hq, ← e]
    clean_types
    pointwise
  · have e := congrFun h (ix3 b j 1)
    simp only [fn] at e
    generalize hq : (1#1 : BitVec 1) = q at e
    rw [← Spec.bit_olt, hq, ← e]
    clean_types
    pointwise

/-- Priors whose test is all ones have positive size. -/
theorem priors_size (h : (fn (F := Ideal) x0 x1 x2 x3).2.2.2.2 = fun _ => 1#1) (p : Fin 24564) :
    (0 : EReal) < x3 (ix2 p 2) ∧ (0 : EReal) < x3 (ix2 p 3) := by
  constructor
  · have e := congrFun h (ix2 p 0)
    simp only [fn] at e
    generalize hq : (1#1 : BitVec 1) = q at e
    rw [← Spec.c_zero, ← Spec.bit_ogt, hq, ← e]
    clean_types
    pointwise
  · have e := congrFun h (ix2 p 1)
    simp only [fn] at e
    generalize hq : (1#1 : BitVec 1) = q at e
    rw [← Spec.c_zero, ← Spec.bit_ogt, hq, ← e]
    clean_types
    pointwise

end

/-- Under the precondition every row of the batch is good. -/
theorem rows_good [hP : Cert.Pre_valid.Facts] (m : (ℓ : Loc Cert.KernelIdeal.nD Cert.KernelIdeal.τ Cert.KernelIdeal.sig) → Buf (Elt Ideal) ℓ)
    (h : Cert.Pre_KernelIdeal_valid m) (c : Dev Cert.KernelIdeal.nD) (b : Fin 32) : (rowsK m c b).Good := by
  obtain ⟨h1, h2, h3, h4, h5⟩ := h c
  exact ⟨fun p k => scores_fin _ _ _ _ h1 b p k, fun j => ⟨fun k => boxes_fin _ _ _ _ h2 b j k, boxes_size _ _ _ _ h4 b j⟩,
    fun p => ⟨fun k => priors_fin _ _ _ _ h3 p k, priors_size _ _ _ _ h5 p⟩⟩

end Cert.Proof

end
-- ==== Proof.lean ====
/-
  The claims of `Defs.lean`, each from its own module.
-/
module

public import proofs.«01_k».proof.Defs
public import proofs.«01_k».proof.Proof.Same
public import proofs.«01_k».proof.Proof.KFinal
public import proofs.«01_k».proof.Proof.RHard
public import proofs.«01_k».proof.Proof.Valid
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_valid

@[expose] public section

noncomputable section

namespace Cert.Proof

open Idealize.ShloMosaic Idealize.SL.Sem

/-- The program at the bits ends, its arguments as they began and every counter at zero. -/
theorem frame_kernel : Cert.quiescent_Kernel := fun m g _ => frame_bits m g

/-- So does the program over the extended reals. -/
theorem frame_kernelIdeal : Cert.quiescent_KernelIdeal := fun m g _ => frame_run m g

/-- So does the reference; it declares no semaphore. -/
theorem frame_reference : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run m g)

/-- The reference ends with its last value, a function of its arguments, and its arguments as they began. -/
theorem reference_run (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v231)
        = Cert.ReferenceIdeal.Read.val_main_v231 (F := Ideal) (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run Cert.ReferenceIdeal.defs _ _).mono
    (fun _ h c => ⟨(h c).1.trans (Cert.ReferenceIdeal.Read.val_main_v231_eq (F := Ideal) (StableHlo.launchContents m c)), (h c).2⟩)
    (Cert.ReferenceIdeal.Value.run m g)

/-- The program over the extended reals and the reference compute the same loss: of the batch's rows, at every row's
`k`-th greatest loss. -/
theorem algebraic : Cert.algebraic_KernelIdeal_ReferenceIdeal_pre_valid := fun m g m' g' hv hag => by
  have hR := rows_good m hv
  have hrow : ∀ c, rowsK m c = Ref.rowsR (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) := fun c => rfl
  choose K hK h208 using fun c b => Ref.kth_at _ _ _ _ b (by rw [← hrow c]; exact hR c b)
  refine ⟨fun c => fun _ => Spec.lossOf (rowsK m c) (K c), run_value m g hR K (fun c b => by rw [hrow c]; exact hK c b), ?_⟩
  refine (θ_run Cert.ReferenceIdeal.defs _ _).mono (fun r h c => ⟨(h c).1.trans ?_, (h c).2⟩) (reference_run m' g')
  rw [(hag c).1, (hag c).2.1, (hag c).2.2.1, (hag c).2.2.2]
  refine funext fun i => Eq.trans ?_ (congrArg (fun R => Spec.lossOf R (K c)) (hrow c).symm)
  exact Ref.loss_at _ _ _ _ (fun b => by rw [← hrow c]; exact hR c b) (K c) (h208 c) i

/-- The frames, the idealization and the equality of the losses. -/
theorem claim : Cert.Claim :=
  ⟨Cert.Kernel.Gen.facts, Cert.KernelIdeal.Gen.facts, Cert.ReferenceIdeal.Gen.facts, Cert.Pre_valid.Gen.facts,
    frame_kernel, frame_kernelIdeal, fun m g _ => frame_run m g, frame_reference, fun m g _ => frame_reference m g trivial, trivial, algebraic⟩

end Cert.Proof

end
